-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v9_1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_v15) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S1024x64 : Shape := ⟨2, ![1024, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x64 .f32) (main_arg1 : FVec F S1024x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16384x64 : Shape := ⟨2, ![16384, 64]⟩
abbrev S1024x64 : Shape := ⟨2, ![1024, 64]⟩
abbrev S_ : Shape := ⟨0, ![]⟩
abbrev S16384 : Shape := ⟨1, ![16384]⟩
abbrev S1x16384 : Shape := ⟨2, ![1, 16384]⟩
abbrev S1024 : Shape := ⟨1, ![1024]⟩
abbrev S1024x1 : Shape := ⟨2, ![1024, 1]⟩
abbrev S16384x1024 : Shape := ⟨2, ![16384, 1024]⟩
abbrev S16x1x1024 : Shape := ⟨3, ![16, 1, 1024]⟩
abbrev S1x1 : Shape := ⟨2, ![1, 1]⟩
abbrev S1x1024 : Shape := ⟨2, ![1, 1024]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 24
  | .vmem => 17
  | .smem => 1
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S1024x64, .bf16⟩
  | .hbm, ⟨3, _⟩ => ⟨S_, .f32⟩
  | .hbm, ⟨4, _⟩ => ⟨S1024x64, .f32⟩
  | .hbm, ⟨5, _⟩ => ⟨S1024x64, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S1024x64, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S16384x64, .f32⟩
  | .hbm, ⟨15, _⟩ => ⟨S16384x1024, .f32⟩
  | .hbm, ⟨16, _⟩ => ⟨S16x1x1024, .i32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S16384, .i32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S1024x64, .bf16⟩
  | .local _ .vmem, ⟨3, _⟩ => ⟨S1024x64, .f32⟩
  | .local _ .vmem, ⟨4, _⟩ => ⟨S1x1024, .f32⟩
  | .local _ .vmem, ⟨5, _⟩ => ⟨S1x1024, .f32⟩
  | .local _ .vmem, ⟨6, _⟩ => ⟨S1024x1, .f32⟩
  | .local _ .vmem, ⟨7, _⟩ => ⟨S1024x64, .f32⟩
  | .local _ .vmem, ⟨8, _⟩ => ⟨S1024x64, .f32⟩
  | .local _ .vmem, ⟨9, _⟩ => ⟨S1024x1024, .f32⟩
  | .local _ .vmem, ⟨10, _⟩ => ⟨S1024x1024, .f32⟩
  | .local _ .vmem, ⟨11, _⟩ => ⟨S1x1x1024, .i32⟩
  | .local _ .vmem, ⟨12, _⟩ => ⟨S1x1x1024, .i32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1024, .f32⟩
  | .local _ .smem, ⟨0, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v9_4 : Ref sig .tc := ⟨.hbm, 18, rfl⟩
abbrev main_v9_5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v49 : BitVec 1 := Scalar.cmpi .eq arg0 c15_i32
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x64 : Shape := ⟨2, ![16384, 64]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1 : Shape := ⟨1, ![1]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S64x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S16384x1, .i32⟩
  | .hbm, ⟨25, _⟩ => ⟨S1x1024, .i32⟩
  | .hbm, ⟨26, _⟩ => ⟨S16384x1024, .i32⟩
  | .hbm, ⟨27, _⟩ => ⟨S16384x1024, .i32⟩
  | .hbm, ⟨28, _⟩ => ⟨S16384x1024, .i1⟩
  | .hbm, ⟨29, _⟩ => ⟨S16384x1024, .f32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x64, .f32⟩
  | .hbm, ⟨49, _⟩ => ⟨S16384x64, .i1⟩
  | .hbm, ⟨50, _⟩ => ⟨S_, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S16384x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1024, .f32⟩
  | .hbm, ⟨77, _⟩ => ⟨S1024, .i1⟩
  | .hbm, ⟨78, _⟩ => ⟨S1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v15 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_call2_cst : Ref sig .tc := ⟨.hbm, 50, rfl⟩
abbrev main_call2_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_2 : Ref sig .tc := ⟨.hbm, 55, rfl⟩
abbrev main_v19 : Ref sig .tc := ⟨.hbm, 56, rfl⟩
abbrev main_cst_3 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_4 : Ref sig .tc := ⟨.hbm, 61, rfl⟩
abbrev main_v23 : Ref sig .tc := ⟨.hbm, 62, rfl⟩
abbrev main_cst_5 : Ref sig .tc := ⟨.hbm, 63, rfl⟩
abbrev main_v24 : Ref sig .tc := ⟨.hbm, 64, rfl⟩
abbrev main_v25 : Ref sig .tc := ⟨.hbm, 65, rfl⟩
abbrev main_cst_6 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_7 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_8 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_9 : Ref sig .tc := ⟨.hbm, 79, rfl⟩
abbrev main_v36 : Ref sig .tc := ⟨.hbm, 80, rfl⟩
abbrev main_cst_10 : Ref sig .tc := ⟨.hbm, 81, rfl⟩
abbrev main_v37 : Ref sig .tc := ⟨.hbm, 82, rfl⟩

abbrev nD : Nat := 1
abbrev τ : Topo := Topo.v7x

variable {F : FTy → Type} [FloatOps F]
-- ==== Proof.RefRun.lean ====
/- The reference program's run. Its @main is written out as the list of its host operations, in order, and the run is read back from that list: every
   weakly fair execution ends with each result buffer at a stated function of the two argument arrays. The functions are defined first, one per
   quantity of the problem: the distances, the index of the nearest row, its one-hot encoding, the row read, the loss, the row averages, the
   perplexity and the share of rows used. -/
module

public import proofs.«01_k».proof.Proof.Gen.ReferenceIdeal
public import Idealize.ShloMosaic.Lib.StableHlo.Run
public import Idealize.ShloMosaic.Lib.Quiescent

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The contents of an array of shape `S` and element type `e`. -/
abbrev Arr (F : FTy → Type) (S : Shape) (e : EltTy) : Type := (⟨S, e⟩ : BufTy).Contents (Elt F)

/-- The squared distances, as the reference computes them: the two squared norms broadcast and added, less twice the product. -/
def distR (z : Arr F S16384x64 .f32) (w : Arr F S1024x64 .f32) : Arr F S16384x1024 .f32 :=
  subf (addf
      (broadcastInDim S16384x1024 ![0, 1] bcast_S16384x1_S16384x1024_0_1 (broadcastInDim S16384x1 ![0] bcast_S16384_S16384x1_0
        (Host.reduceAdd (mulf z z) (constant S_ .f32 0x00000000#32) reducesTo_S16384x64_S16384_d1 h_S_)))
      (broadcastInDim S16384x1024 ![0, 1] bcast_S1x1024_S16384x1024_0_1 (broadcastInDim S1x1024 ![1] bcast_S1024_S1x1024_1
        (Host.reduceAdd (mulf w w) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none z (transpose S64x1024 [1, 0] w transposes_S1024x64_S64x1024_1_0)))

/-- The index of the first smallest entry of each row. -/
def idxR (x : Arr F S16384x1024 .f32) : Arr F S16384 .i32 := fun j =>
  (Host.argReduce reducer_argmin_f32_i32 x (iotaInDim S16384x1024 32 1) (constant S_ .f32 0x7F800000#32) (constantI S_ 32 0#32)
    reducesTo_S16384x1024_S16384_d1 h_S_ j).2

/-- The one-hot rows of a column of indices. -/
def onehotR (i : Arr F S16384 .i32) : Arr F S16384x1024 .f32 :=
  uitofp .f32 (cmpi .eq
    (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- A column of indices with 1024 added to those below zero, as a column of index vectors. -/
def wrapR (i : Arr F S16384 .i32) : Arr F S16384x1 .i32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Whether each index vector lies within the table's rows. -/
def insideR (v : Arr F S16384x1 .i32) : Arr F S16384 .i1 :=
  Host.reduce IntOp.andi
    (andi (cmpi .sge v (broadcastInDim S16384x1 ![] bcast_S_S16384x1 (constantI S_ 32 0#32)))
      (cmpi .sle v (broadcastInDim S16384x1 ![0, 1] bcast_S1x1_S16384x1_0_1 (broadcastInDim S1x1 ![1] bcast_S1_S1x1_1 (constantI S1 32 1023#32)))))
    (constantI S_ 1 1#1) reducesTo_S16384x1_S16384_d1 h_S_

/-- The rows of the table that the index vectors name; not-a-number where one lies outside. -/
def takeR (w : Arr F S1024x64 .f32) (v : Arr F S16384x1 .i32) : Arr F S16384x64 .f32 :=
  select (broadcastInDim S16384x64 ![0] bcast_S16384_S16384x64_0 (insideR v))
    (Host.gather gather_S1024x64_S16384x1_S16384x64_1_0_n_n_0_1_164 w v)
    (broadcastInDim S16384x64 ![] bcast_S_S16384x64 (constant S_ .f32 0x7FC00000#32))

/-- The mean squared difference. -/
def lossR (z q : Arr F S16384x64 .f32) : Arr F S_ .f32 :=
  Host.divf (Host.reduceAdd (mulf (subf z q) (subf z q)) (constant S_ .f32 0x00000000#32) reducesTo_S16384x64_S_d0_1 h_S_)
    (constant S_ .f32 0x49800000#32)

/-- The straight-through value. -/
def throughR (z q : Arr F S16384x64 .f32) : Arr F S16384x64 .f32 := addf z (subf q z)

/-- The mean of each column of the encodings. -/
def avgR (e : Arr F S16384x1024 .f32) : Arr F S1024 .f32 :=
  Host.divf (Host.reduceAdd e (constant S_ .f32 0x00000000#32) reducesTo_S16384x1024_S1024_d0 h_S_)
    (broadcastInDim S1024 ![] bcast_S_S1024 (constant S_ .f32 0x46800000#32))

/-- The perplexity of the column means. -/
def plexR (a : Arr F S1024 .f32) : Arr F S_ .f32 :=
  Host.exp (Host.negf (Host.reduceAdd
    (mulf a (Host.log (addf a (broadcastInDim S1024 ![] bcast_S_S1024 (constant S_ .f32 0x2EDBE6FF#32)))))
    (constant S_ .f32 0x00000000#32) reducesTo_S1024_S_d0 h_S_))

/-- The share of columns whose mean is above the threshold. -/
def usageR (a : Arr F S1024 .f32) : Arr F S_ .f32 :=
  Host.divf (Host.reduceAdd
    (uitofp .f32 (cmpf .ogt a (broadcastInDim S1024 ![] bcast_S_S1024 (constant S_ .f32 0x3A83126F#32))))
    (constant S_ .f32 0x00000000#32) reducesTo_S1024_S_d0 h_S_)
    (constant S_ .f32 0x44800000#32)

/-- The operations of @main, in order; a called function's operations stand in its call's place. -/
abbrev ops : List (HloOp τ sig (Elt F)) :=
  [ binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v3 main_cst_0 main_v4 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v4 main_v5 (broadcastInDim S1x1024 ![1] bcast_S1024_S1x1024_1 : (⟨S1024, .f32⟩ : BufTy).Contents (Elt F) → (⟨S1x1024, .f32⟩ : BufTy).Contents (Elt F)),
    unary main_v2 main_v6 (broadcastInDim S16384x1024 ![0, 1] bcast_S16384x1_S16384x1024_0_1 : (⟨S16384x1, .f32⟩ : BufTy).Contents (Elt F) → (⟨S16384x1024, .f32⟩ : BufTy).Contents (Elt F)),
    unary main_v5 main_v7 (broadcastInDim S16384x1024 ![0, 1] bcast_S1x1024_S16384x1024_0_1 : (⟨S1x1024, .f32⟩ : BufTy).Contents (Elt F) → (⟨S16384x1024, .f32⟩ : BufTy).Contents (Elt F)),
    binary main_v6 main_v7 main_v8 (addf : (⟨S16384x1024, .f32⟩ : BufTy).Contents (Elt F) → (⟨S16384x1024, .f32⟩ : BufTy).Contents (Elt F) → (⟨S16384x1024, .f32⟩ : BufTy).Contents (Elt F)),
    unary main_arg1 main_v9 ((transpose S64x1024 [1, 0] · transposes_S1024x64_S64x1024_1_0) : (⟨S1024x64, .f32⟩ : BufTy).Contents (Elt F) → (⟨S64x1024, .f32⟩ : BufTy).Contents (Elt F)),
    binary main_arg0 main_v9 main_v10 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_1 (constant S_ .f32 0x40000000#32),
    unary main_cst_1 main_v11 (broadcastInDim S16384x1024 ![] bcast_S_S16384x1024 : (⟨S_, .f32⟩ : BufTy).Contents (Elt F) → (⟨S16384x1024, .f32⟩ : BufTy).Contents (Elt F)),
    binary main_v11 main_v10 main_v12 (mulf : (⟨S16384x1024, .f32⟩ : BufTy).Contents (Elt F) → (⟨S16384x1024, .f32⟩ : BufTy).Contents (Elt F) → (⟨S16384x1024, .f32⟩ : BufTy).Contents (Elt F)),
    binary main_v8 main_v12 main_v13 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call0_v0) (iotaInDim S16384x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S16384x1024, .f32⟩) main_v13) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmin_f32_i32 x y u v reducesTo_S16384x1024_S16384_d1 h_S_ j).1),
    TRef.quaternary (TRef.of (T := ⟨S16384x1024, .f32⟩) main_v13) (TRef.of (T := ⟨S16384x1024, .i32⟩) main_call0_v0) (TRef.of (T := ⟨S_, .f32⟩) main_call0_cst) (TRef.of (T := ⟨S_, .i32⟩) main_call0_c) (TRef.of (T := ⟨S16384, .i32⟩) main_v14) (fun x y u v j => (Host.argReduce reducer_argmin_f32_i32 x y u v reducesTo_S16384x1024_S16384_d1 h_S_ j).2),
    TRef.unary (TRef.of (T := ⟨S16384, .i32⟩) main_v14) (TRef.of (T := ⟨S16384x1, .i32⟩) main_call1_v0) (broadcastInDim S16384x1 ![0] bcast_S16384_S16384x1_0),
    TRef.nullary (TRef.of (T := ⟨S1x1024, .i32⟩) main_call1_v1) (iotaInDim S1x1024 32 1),
    TRef.unary (TRef.of (T := ⟨S16384x1, .i32⟩) main_call1_v0) (TRef.of (T := ⟨S16384x1024, .i32⟩) main_call1_v2) (broadcastInDim S16384x1024 ![0, 1] bcast_S16384x1_S16384x1024_0_1),
    TRef.unary (TRef.of (T := ⟨S1x1024, .i32⟩) main_call1_v1) (TRef.of (T := ⟨S16384x1024, .i32⟩) main_call1_v3) (broadcastInDim S16384x1024 ![0, 1] bcast_S1x1024_S16384x1024_0_1),
    TRef.binary (TRef.of (T := ⟨S16384x1024, .i32⟩) main_call1_v2) (TRef.of (T := ⟨S16384x1024, .i32⟩) main_call1_v3) (TRef.of (T := ⟨S16384x1024, .i1⟩) main_call1_v4) (cmpi .eq),
    TRef.unary (TRef.of (T := ⟨S16384x1024, .i1⟩) main_call1_v4) (TRef.of (T := ⟨S16384x1024, .f32⟩) main_v15) (uitofp .f32),
    TRef.nullary (TRef.of (T := ⟨S_, .i32⟩) main_call2_c) (constantI S_ 32 0#32),
    TRef.unary (TRef.of (T := ⟨S_, .i32⟩) main_call2_c) (TRef.of (T := ⟨S16384, .i32⟩) main_call2_v0) (broadcastInDim S16384 ![] bcast_S_S16384),
    TRef.binary (TRef.of (T := ⟨S16384, .i32⟩) main_v14) (TRef.of (T := ⟨S16384, .i32⟩) main_call2_v0) (TRef.of (T := ⟨S16384, .i1⟩) main_call2_v1) (cmpi .slt),
    TRef.nullary (TRef.of (T := ⟨S_, .i32⟩) main_call2_c_0) (constantI S_ 32 1024#32),
    TRef.unary (TRef.of (T := ⟨S_, .i32⟩) main_call2_c_0) (TRef.of (T := ⟨S16384, .i32⟩) main_call2_v2) (broadcastInDim S16384 ![] bcast_S_S16384),
    TRef.binary (TRef.of (T := ⟨S16384, .i32⟩) main_v14) (TRef.of (T := ⟨S16384, .i32⟩) main_call2_v2) (TRef.of (T := ⟨S16384, .i32⟩) main_call2_v3) addi,
    TRef.ternary (TRef.of (T := ⟨S16384, .i1⟩) main_call2_v1) (TRef.of (T := ⟨S16384, .i32⟩) main_call2_v3) (TRef.of (T := ⟨S16384, .i32⟩) main_v14) (TRef.of (T := ⟨S16384, .i32⟩) main_call2_v4) select,
    TRef.unary (TRef.of (T := ⟨S16384, .i32⟩) main_call2_v4) (TRef.of (T := ⟨S16384x1, .i32⟩) main_call2_v5) (broadcastInDim S16384x1 ![0] bcast_S16384_S16384x1_0),
    TRef.nullary (TRef.of (T := ⟨S1, .i32⟩) main_call2_c_1) (constantI S1 32 1023#32),
    TRef.nullary (TRef.of (T := ⟨S_, .i32⟩) main_call2_c_2) (constantI S_ 32 0#32),
    TRef.unary (TRef.of (T := ⟨S_, .i32⟩) main_call2_c_2) (TRef.of (T := ⟨S16384x1, .i32⟩) main_call2_v6) (broadcastInDim S16384x1 ![] bcast_S_S16384x1),
    TRef.binary (TRef.of (T := ⟨S16384x1, .i32⟩) main_call2_v5) (TRef.of (T := ⟨S16384x1, .i32⟩) main_call2_v6) (TRef.of (T := ⟨S16384x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S16384x1, .i32⟩) main_call2_v9) (broadcastInDim S16384x1 ![0, 1] bcast_S1x1_S16384x1_0_1),
    TRef.binary (TRef.of (T := ⟨S16384x1, .i32⟩) main_call2_v5) (TRef.of (T := ⟨S16384x1, .i32⟩) main_call2_v9) (TRef.of (T := ⟨S16384x1, .i1⟩) main_call2_v10) (cmpi .sle),
    TRef.binary (TRef.of (T := ⟨S16384x1, .i1⟩) main_call2_v7) (TRef.of (T := ⟨S16384x1, .i1⟩) main_call2_v10) (TRef.of (T := ⟨S16384x1, .i1⟩) main_call2_v11) andi,
    TRef.nullary (TRef.of (T := ⟨S_, .i1⟩) main_call2_c_3) (constantI S_ 1 1#1),
    TRef.binary (TRef.of (T := ⟨S16384x1, .i1⟩) main_call2_v11) (TRef.of (T := ⟨S_, .i1⟩) main_call2_c_3) (TRef.of (T := ⟨S16384, .i1⟩) main_call2_v12) (fun x v => Host.reduce IntOp.andi x v reducesTo_S16384x1_S16384_d1 h_S_),
    TRef.binary (TRef.of (T := ⟨S1024x64, .f32⟩) main_arg1) (TRef.of (T := ⟨S16384x1, .i32⟩) main_call2_v5) (TRef.of (T := ⟨S16384x64, .f32⟩) main_call2_v13) (fun x i => Host.gather gather_S1024x64_S16384x1_S16384x64_1_0_n_n_0_1_164 x i),
    TRef.unary (TRef.of (T := ⟨S16384, .i1⟩) main_call2_v12) (TRef.of (T := ⟨S16384x64, .i1⟩) main_call2_v14) (broadcastInDim S16384x64 ![0] bcast_S16384_S16384x64_0),
    TRef.nullary (TRef.of (T := ⟨S_, .f32⟩) main_call2_cst) (constant S_ .f32 0x7FC00000#32),
    TRef.unary (TRef.of (T := ⟨S_, .f32⟩) main_call2_cst) (TRef.of (T := ⟨S16384x64, .f32⟩) main_call2_v15) (broadcastInDim S16384x64 ![] bcast_S_S16384x64),
    TRef.ternary (TRef.of (T := ⟨S16384x64, .i1⟩) main_call2_v14) (TRef.of (T := ⟨S16384x64, .f32⟩) main_call2_v13) (TRef.of (T := ⟨S16384x64, .f32⟩) main_call2_v15) (TRef.of (T := ⟨S16384x64, .f32⟩) main_v16) select,
    binary main_arg0 main_v16 main_v17 (subf : (⟨S16384x64, .f32⟩ : BufTy).Contents (Elt F) → (⟨S16384x64, .f32⟩ : BufTy).Contents (Elt F) → (⟨S16384x64, .f32⟩ : BufTy).Contents (Elt F)),
    binary main_v17 main_v17 main_v18 (mulf : (⟨S16384x64, .f32⟩ : BufTy).Contents (Elt F) → (⟨S16384x64, .f32⟩ : BufTy).Contents (Elt F) → (⟨S16384x64, .f32⟩ : BufTy).Contents (Elt F)),
    nullary main_cst_2 (constant S_ .f32 0x00000000#32),
    binary main_v18 main_cst_2 main_v19 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_3 (constant S_ .f32 0x49800000#32),
    binary main_v19 main_cst_3 main_v20 (Host.divf : (⟨S_, .f32⟩ : BufTy).Contents (Elt F) → (⟨S_, .f32⟩ : BufTy).Contents (Elt F) → (⟨S_, .f32⟩ : BufTy).Contents (Elt F)),
    binary main_v16 main_arg0 main_v21 (subf : (⟨S16384x64, .f32⟩ : BufTy).Contents (Elt F) → (⟨S16384x64, .f32⟩ : BufTy).Contents (Elt F) → (⟨S16384x64, .f32⟩ : BufTy).Contents (Elt F)),
    binary main_arg0 main_v21 main_v22 (addf : (⟨S16384x64, .f32⟩ : BufTy).Contents (Elt F) → (⟨S16384x64, .f32⟩ : BufTy).Contents (Elt F) → (⟨S16384x64, .f32⟩ : BufTy).Contents (Elt F)),
    nullary main_cst_4 (constant S_ .f32 0x00000000#32),
    binary main_v15 main_cst_4 main_v23 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_5 (constant S_ .f32 0x46800000#32),
    unary main_cst_5 main_v24 (broadcastInDim S1024 ![] bcast_S_S1024 : (⟨S_, .f32⟩ : BufTy).Contents (Elt F) → (⟨S1024, .f32⟩ : BufTy).Contents (Elt F)),
    binary main_v23 main_v24 main_v25 (Host.divf : (⟨S1024, .f32⟩ : BufTy).Contents (Elt F) → (⟨S1024, .f32⟩ : BufTy).Contents (Elt F) → (⟨S1024, .f32⟩ : BufTy).Contents (Elt F)),
    nullary main_cst_6 (constant S_ .f32 0x2EDBE6FF#32),
    unary main_cst_6 main_v26 (broadcastInDim S1024 ![] bcast_S_S1024 : (⟨S_, .f32⟩ : BufTy).Contents (Elt F) → (⟨S1024, .f32⟩ : BufTy).Contents (Elt F)),
    binary main_v25 main_v26 main_v27 (addf : (⟨S1024, .f32⟩ : BufTy).Contents (Elt F) → (⟨S1024, .f32⟩ : BufTy).Contents (Elt F) → (⟨S1024, .f32⟩ : BufTy).Contents (Elt F)),
    unary main_v27 main_v28 (Host.log : (⟨S1024, .f32⟩ : BufTy).Contents (Elt F) → (⟨S1024, .f32⟩ : BufTy).Contents (Elt F)),
    binary main_v25 main_v28 main_v29 (mulf : (⟨S1024, .f32⟩ : BufTy).Contents (Elt F) → (⟨S1024, .f32⟩ : BufTy).Contents (Elt F) → (⟨S1024, .f32⟩ : BufTy).Contents (Elt F)),
    nullary main_cst_7 (constant S_ .f32 0x00000000#32),
    binary main_v29 main_cst_7 main_v30 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v30 main_v31 (Host.negf : (⟨S_, .f32⟩ : BufTy).Contents (Elt F) → (⟨S_, .f32⟩ : BufTy).Contents (Elt F)),
    unary main_v31 main_v32 (Host.exp : (⟨S_, .f32⟩ : BufTy).Contents (Elt F) → (⟨S_, .f32⟩ : BufTy).Contents (Elt F)),
    nullary main_cst_8 (constant S_ .f32 0x3A83126F#32),
    unary main_cst_8 main_v33 (broadcastInDim S1024 ![] bcast_S_S1024 : (⟨S_, .f32⟩ : BufTy).Contents (Elt F) → (⟨S1024, .f32⟩ : BufTy).Contents (Elt F)),
    binary main_v25 main_v33 main_v34 (cmpf .ogt : (⟨S1024, .f32⟩ : BufTy).Contents (Elt F) → (⟨S1024, .f32⟩ : BufTy).Contents (Elt F) → (⟨S1024, .i1⟩ : BufTy).Contents (Elt F)),
    unary main_v34 main_v35 (uitofp .f32 : (⟨S1024, .i1⟩ : BufTy).Contents (Elt F) → (⟨S1024, .f32⟩ : BufTy).Contents (Elt F)),
    nullary main_cst_9 (constant S_ .f32 0x00000000#32),
    binary main_v35 main_cst_9 main_v36 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_10 (constant S_ .f32 0x44800000#32),
    binary main_v36 main_cst_10 main_v37 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the sequence of these operations. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Every operation works within the device's buffers. -/
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., nullary_bufs_sub .., binary_bufs_sub .., nullary_bufs_sub .., binary_bufs_sub ..⟩

/-- The launch contents of the first argument. -/
abbrev argZ (m : (ℓ : Loc nD τ sig) → Buf (Elt F) ℓ) (c : Dev nD) : Arr F S16384x64 .f32 := m ((c.tc : Thread nD τ).loc main_arg0)

/-- The launch contents of the second argument. -/
abbrev argW (m : (ℓ : Loc nD τ sig) → Buf (Elt F) ℓ) (c : Dev nD) : Arr F S1024x64 .f32 := m ((c.tc : Thread nD τ).loc main_arg1)

set_option maxRecDepth 16384 in
set_option maxHeartbeats 33200000 in
/-- Every weakly fair execution of @main ends with each result at its function of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = throughR (argZ m c) (takeR (argW m c) (wrapR (idxR (distR (argZ m c) (argW m c)))))
      ∧ r.2.mem ((c.tc : Thread nD τ).loc main_v20) = lossR (argZ m c) (takeR (argW m c) (wrapR (idxR (distR (argZ m c) (argW m c)))))
      ∧ r.2.mem ((c.tc : Thread nD τ).loc main_v32) = plexR (avgR (onehotR (idxR (distR (argZ m c) (argW m c)))))
      ∧ r.2.mem ((c.tc : Thread nD τ).loc main_v37) = usageR (avgR (onehotR (idxR (distR (argZ m c) (argW m c)))))
      ∧ r.2.mem ((c.tc : Thread nD τ).loc main_v14) = idxR (distR (argZ m c) (argW m c))
      ∧ r.2.mem ((c.tc : Thread nD τ).loc main_v15) = onehotR (idxR (distR (argZ m c) (argW m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    refine ⟨(h c main_v22).trans ?_, (h c main_v20).trans ?_, (h c main_v32).trans ?_, (h c main_v37).trans ?_, (h c main_v14).trans ?_,
      (h c main_v15).trans ?_, (h c main_arg0).trans ?_, (h c main_arg1).trans ?_⟩
    all_goals
      simp only [ops, TRef.binary, TRef.nullary, TRef.ternary, TRef.quaternary, TRef.unary, TRef.toBuf, TRef.ofBuf, cast_eq]
      after_results_simp <;> rfl)
    (run_seq scopedRefs_eq scopedSems_eq defs main (fun _ => ops) main_eq (fun _ => ops_sub) m ρ)

/-- Every weakly fair execution of @main ends with the arguments unchanged and every semaphore counter at zero: the program has no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2.2.2.2.2, sem_eq_zero_of_no_sems (by decide) r.2⟩) (run m ρ)

end Cert.ReferenceIdeal.Run

end
-- ==== Proof.Block.lean ====
/- What one grid point of the kernel leaves in its windows and its two carried buffers, as the kernel's named payloads of the point's input blocks. -/
module

public import proofs.«01_k».proof.Proof.Gen.KernelIdeal.Frame
public import Idealize.ShloMosaic.Lib.Pipeline.Value
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ)

/-- Two zero offsets are the zero function. -/
theorem hz2 : (![0, 0] : Fin 2 → Nat) = fun _ => 0 := funext fun a => by fin_cases a <;> rfl

/-- Three zero offsets are the zero function. -/
theorem hz3 : (![0, 0, 0] : Fin 3 → Nat) = fun _ => 0 := funext fun a => by fin_cases a <;> rfl

/-- The block of the rows `z` at a point. -/
abbrev zB (c : Dev nD) (t : Fin cfg0.N) : Vec F S1024x64 .f32 := iblk m c 0 t
/-- The table, narrowed. -/
abbrev hB (c : Dev nD) (t : Fin cfg0.N) : Vec F S1024x64 .bf16 := iblk m c 1 t
/-- The table times minus two. -/
abbrev wB (c : Dev nD) (t : Fin cfg0.N) : Vec F S1024x64 .f32 := iblk m c 2 t
/-- The block of the squared norms of the rows of `z`. -/
abbrev znB (c : Dev nD) (t : Fin cfg0.N) : Vec F S1x1024 .f32 := iblk m c 3 t
/-- The squared norms of the table's rows. -/
abbrev cnB (c : Dev nD) (t : Fin cfg0.N) : Vec F S1024x1 .f32 := iblk m c 4 t

/-- The only index of a one by one array. -/
abbrev e11 : S1x1.Idx := Shape.Idx.first (by decide)

/-- Reading the only entry of a one by one array through its whole rectangle. -/
theorem ld_one (x : Vec F S1x1 .f32) (h : ∀ a, (![0, 0] : Fin 2 → Nat) a + (![1, 1] : Fin 2 → Nat) a ≤ S1x1.size a) (h' : 0 < (Rect.unit (s := S1x1) ![0, 0] ![1, 1] h).shape.numel) :
    View.ld x (Rect.unit ![0, 0] ![1, 1] h) (Shape.Idx.first h') = x e11 :=
  congrFun (View.ld_unit_zero (S := S1x1) hz2 _ x) _

/-- Every point of the grid is its first, an inner one or its last. -/
theorem point_cases (t : Fin cfg0.N) :
    (t.val % 16 = 0 ∧ ¬1 ≤ t.val ∧ ¬t.val % 16 = 15) ∨ (¬t.val % 16 = 0 ∧ 1 ≤ t.val ∧ ¬t.val % 16 = 15) ∨ (¬t.val % 16 = 0 ∧ 1 ≤ t.val ∧ t.val % 16 = 15) := by
  have hN : t.val < 16 := lt_of_lt_of_eq t.isLt N_0
  omega

/-- The first window written at a point: the one-hot rows times the narrowed table. -/
theorem outs_5 (c : Dev nD) (t : Fin cfg0.N) :
    (outsAt0 m c t.val t.isLt).1 = k0_pay14 (zB m c t) (wB m c t) (znB m c t) (cnB m c t) (hB m c t) := by
  rcases point_cases t with ⟨h0, h1, h2⟩ | ⟨h0, h1, h2⟩ | ⟨h0, h1, h2⟩
  · rw [outsAt0_A m c t h0 h1 h2]
    dsimp only
    unfold out0_A_5
    rw [View.read_writes_eq_canon _ _ _ (fun y => cover0_A_5 (y := y) ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
  · rw [outsAt0_B m c t h0 h1 h2]
    dsimp only
    unfold out0_B_5
    rw [View.read_writes_eq_canon _ _ _ (fun y => cover0_B_5 (y := y) ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
  · rw [outsAt0_C m c t h0 h1 h2]
    dsimp only
    unfold out0_C_5
    rw [View.read_writes_eq_canon _ _ _ (fun y => cover0_C_5 (y := y) ..)]
    unfold kernelRun0_C
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
/-- The second window written at a point: the one-hot rows. -/
theorem outs_6 (c : Dev nD) (t : Fin cfg0.N) :
    (outsAt0 m c t.val t.isLt).2.1 = k0_pay15 (zB m c t) (wB m c t) (znB m c t) (cnB m c t) := by
  rcases point_cases t with ⟨h0, h1, h2⟩ | ⟨h0, h1, h2⟩ | ⟨h0, h1, h2⟩
  · rw [outsAt0_A m c t h0 h1 h2]
    dsimp only
    unfold out0_A_6
    rw [View.read_writes_eq_canon _ _ _ (fun y => cover0_A_6 (y := y) ..)]
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
  · rw [outsAt0_B m c t h0 h1 h2]
    dsimp only
    unfold out0_B_6
    rw [View.read_writes_eq_canon _ _ _ (fun y => cover0_B_6 (y := y) ..)]
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
  · rw [outsAt0_C m c t h0 h1 h2]
    dsimp only
    unfold out0_C_6
    rw [View.read_writes_eq_canon _ _ _ (fun y => cover0_C_6 (y := y) ..)]
    unfold kernelRun0_C
    dsimp only
    sl_unfold_words
    rw [View.canon_unit_zero hz2]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
/-- The third window written at a point: the indices. -/
theorem outs_7 (c : Dev nD) (t : Fin cfg0.N) :
    (outsAt0 m c t.val t.isLt).2.2.1 = k0_pay16 (zB m c t) (wB m c t) (znB m c t) (cnB m c t) := by
  rcases point_cases t with ⟨h0, h1, h2⟩ | ⟨h0, h1, h2⟩ | ⟨h0, h1, h2⟩
  · rw [outsAt0_A m c t h0 h1 h2]
    dsimp only
    unfold out0_A_7
    rw [View.read_writes_eq_canon _ _ _ (fun y => cover0_A_7 (y := y) ..)]
    unfold kernelRun0_A
    dsimp only
    sl_unfold_words
    rw [View.canon_unit_zero hz3]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
  · rw [outsAt0_B m c t h0 h1 h2]
    dsimp only
    unfold out0_B_7
    rw [View.read_writes_eq_canon _ _ _ (fun y => cover0_B_7 (y := y) ..)]
    unfold kernelRun0_B
    dsimp only
    sl_unfold_words
    rw [View.canon_unit_zero hz3]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]
  · rw [outsAt0_C m c t h0 h1 h2]
    dsimp only
    unfold out0_C_7
    rw [View.read_writes_eq_canon _ _ _ (fun y => cover0_C_7 (y := y) ..)]
    unfold kernelRun0_C
    dsimp only
    sl_unfold_words
    rw [View.canon_unit_zero hz3]
    simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2]

/-- The counts carried after the first point. -/
theorem counts_A (c : Dev nD) (t : Fin cfg0.N) (h0 : t.val % 16 = 0) (h1 : ¬1 ≤ t.val) (h2 : ¬t.val % 16 = 15) :
    (outsAt0 m c t.val t.isLt).2.2.2.2.2.2.1 = k0_pay3 (k0_pay15 (zB m c t) (wB m c t) (znB m c t) (cnB m c t)) := by
  rw [outsAt0_A m c t h0 h1 h2]
  dsimp only
  unfold sout0_A_0
  rw [View.read_writes_eq_canon _ _ _ (fun y => scover0_A_0 (y := y) ..)]
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2, read_unread_whole, View.readCov_unit_zero (S := S1x1024) _ hz2]

/-- The loss carried after the first point. -/
theorem loss_A (c : Dev nD) (t : Fin cfg0.N) (h0 : t.val % 16 = 0) (h1 : ¬1 ≤ t.val) (h2 : ¬t.val % 16 = 15) :
    (outsAt0 m c t.val t.isLt).2.2.2.2.2.2.2 = fun _ => k0_pay2 (k0_pay11 (zB m c t) (wB m c t) (znB m c t) (cnB m c t)) := by
  rw [outsAt0_A m c t h0 h1 h2]
  dsimp only
  unfold sout0_A_1
  rw [View.read_writes_eq_canon _ _ _ (fun y => scover0_A_1 (y := y) ..)]
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2, read_unread_whole, View.readCov_unit_zero (S := S1x1024) _ hz2]
  rfl

/-- The counts carried after an inner point. -/
theorem counts_B (c : Dev nD) (t : Fin cfg0.N) (h0 : ¬t.val % 16 = 0) (h1 : 1 ≤ t.val) (h2 : ¬t.val % 16 = 15) :
    (outsAt0 m c t.val t.isLt).2.2.2.2.2.2.1 = k0_pay4 (k0_pay15 (zB m c t) (wB m c t) (znB m c t) (cnB m c t))
      (outsAt0 m c (t.val - 1) (lt_of_le_of_lt (Nat.sub_le _ _) t.isLt)).2.2.2.2.2.2.1 := by
  rw [outsAt0_B m c t h0 h1 h2]
  dsimp only
  unfold sout0_B_0
  rw [View.read_writes_eq_canon _ _ _ (fun y => scover0_B_0 (y := y) ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2, read_unread_whole, View.readCov_unit_zero (S := S1x1024) _ hz2]

/-- The loss carried after an inner point. -/
theorem loss_B (c : Dev nD) (t : Fin cfg0.N) (h0 : ¬t.val % 16 = 0) (h1 : 1 ≤ t.val) (h2 : ¬t.val % 16 = 15) :
    (outsAt0 m c t.val t.isLt).2.2.2.2.2.2.2 = fun _ => k0_pay5 (k0_pay11 (zB m c t) (wB m c t) (znB m c t) (cnB m c t))
      ((outsAt0 m c (t.val - 1) (lt_of_le_of_lt (Nat.sub_le _ _) t.isLt)).2.2.2.2.2.2.2 e11) := by
  rw [outsAt0_B m c t h0 h1 h2]
  dsimp only
  unfold sout0_B_1
  rw [View.read_writes_eq_canon _ _ _ (fun y => scover0_B_1 (y := y) ..)]
  unfold kernelRun0_B
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2, read_unread_whole, View.readCov_unit_zero (S := S1x1024) _ hz2]
  exact funext fun _ => congrArg (k0_pay5 _) (ld_one _ _ _)

/-- The perplexity's window after the last point. -/
theorem outs_9 (c : Dev nD) (t : Fin cfg0.N) (h0 : ¬t.val % 16 = 0) (h1 : 1 ≤ t.val) (h2 : t.val % 16 = 15) :
    (outsAt0 m c t.val t.isLt).2.2.2.2.1 = k0_pay8 (k0_pay4 (k0_pay15 (zB m c t) (wB m c t) (znB m c t) (cnB m c t))
      (outsAt0 m c (t.val - 1) (lt_of_le_of_lt (Nat.sub_le _ _) t.isLt)).2.2.2.2.2.2.1) := by
  rw [outsAt0_C m c t h0 h1 h2]
  dsimp only
  unfold out0_C_9
  rw [View.read_writes_eq_canon _ _ _ (fun y => cover0_C_9 (y := y) ..)]
  unfold kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2, read_unread_whole, View.readCov_unit_zero (S := S1x1024) _ hz2]

/-- The usage's window after the last point. -/
theorem outs_10 (c : Dev nD) (t : Fin cfg0.N) (h0 : ¬t.val % 16 = 0) (h1 : 1 ≤ t.val) (h2 : t.val % 16 = 15) :
    (outsAt0 m c t.val t.isLt).2.2.2.2.2.1 = k0_pay9 (k0_pay4 (k0_pay15 (zB m c t) (wB m c t) (znB m c t) (cnB m c t))
      (outsAt0 m c (t.val - 1) (lt_of_le_of_lt (Nat.sub_le _ _) t.isLt)).2.2.2.2.2.2.1) := by
  rw [outsAt0_C m c t h0 h1 h2]
  dsimp only
  unfold out0_C_10
  rw [View.read_writes_eq_canon _ _ _ (fun y => cover0_C_10 (y := y) ..)]
  unfold kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2, read_unread_whole, View.readCov_unit_zero (S := S1x1024) _ hz2]

/-- The loss's window after the last point. -/
theorem outs_8 (c : Dev nD) (t : Fin cfg0.N) (h0 : ¬t.val % 16 = 0) (h1 : 1 ≤ t.val) (h2 : t.val % 16 = 15) :
    (outsAt0 m c t.val t.isLt).2.2.2.1 = k0_pay7 (k0_pay5 (k0_pay11 (zB m c t) (wB m c t) (znB m c t) (cnB m c t))
      ((outsAt0 m c (t.val - 1) (lt_of_le_of_lt (Nat.sub_le _ _) t.isLt)).2.2.2.2.2.2.2 e11)) := by
  rw [outsAt0_C m c t h0 h1 h2]
  dsimp only
  unfold out0_C_8
  rw [View.read_writes_eq_canon _ _ _ (fun y => cover0_C_8 (y := y) ..)]
  unfold kernelRun0_C
  dsimp only
  sl_unfold_words
  rw [View.canon_unit_zero hz2]
  simp only [View.readAt_eq_ld, (hs0_0 t).read_unread, (hs0_1 t).read_unread, (hs0_2 t).read_unread, (hs0_3 t).read_unread, (hs0_4 t).read_unread,
      View.ld_unit_zero (S := S1024x64) hz2, View.ld_unit_zero (S := S1x1024) hz2, View.ld_unit_zero (S := S1024x1) hz2, read_unread_whole, View.readCov_unit_zero (S := S1x1024) _ hz2]
  exact congrArg (fun x => k0_pay7 (k0_pay5 _ x)) (ld_one _ _ _)

end Cert.KernelIdeal.Value

end
-- ==== Proof.Nearest.lean ====
/- The mathematics both programs compute: the squared distances over the reals, the first table row at the smallest one, and how a fold over the
   rows, of either program's kind, finds it. -/
module

public import Idealize.ShloMosaic.PureOps.Ideal.Laws
public import Idealize.ShloMosaic.PureOps.Reduce

@[expose] public section

noncomputable section

open Idealize.ShloMosaic

namespace Cert.Nearest

/-- A finite sum of real numbers, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `k` is the first place at which `f` is smallest. -/
def IsFirst {n : ℕ} (f : Fin n → ℝ) (k : Fin n) : Prop := (∀ j, f k ≤ f j) ∧ ∀ j, j < k → f k < f j

/-- Every function on a nonempty range has such a place. -/
theorem exists_isFirst (f : Fin 1024 → ℝ) : ∃ k, IsFirst f k := by
  classical
  obtain ⟨a, ha⟩ := Finite.exists_min f
  obtain ⟨k, hk, hmin⟩ := WellFounded.has_min (r := (· < · : Fin 1024 → Fin 1024 → Prop)) wellFounded_lt {k | ∀ j, f k ≤ f j} ⟨a, ha⟩
  refine ⟨k, hk, fun j hj => lt_of_le_of_ne (hk j) fun e => hmin j (fun i => ?_) hj⟩
  rw [← e]; exact hk i

/-- The first place at which `f` is smallest. -/
def first (f : Fin 1024 → ℝ) : Fin 1024 := (exists_isFirst f).choose

theorem first_le (f : Fin 1024 → ℝ) (j : Fin 1024) : f (first f) ≤ f j := (exists_isFirst f).choose_spec.1 j

theorem first_lt (f : Fin 1024 → ℝ) (j : Fin 1024) (h : j < first f) : f (first f) < f j := (exists_isFirst f).choose_spec.2 j h

/-- The minimum of `f`, folded from infinity, is its value at the first smallest place. -/
theorem fold_min (f : Fin 1024 → ℝ) :
    (Finset.univ : Finset (Fin 1024)).fold (min : EReal → EReal → EReal) ⊤ (fun k => (f k : EReal)) = (f (first f) : EReal) := by
  apply le_antisymm
  · exact Finset.fold_min_le _ |>.mpr (Or.inr ⟨first f, Finset.mem_univ _, le_rfl⟩)
  · exact Finset.le_fold_min _ |>.mpr ⟨le_top, fun k _ => EReal.coe_le_coe_iff.mpr (first_le f k)⟩

/-- The signed value of the smaller of two words is the smaller of their signed values. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The signed value of a small word. -/
theorem toInt_ofNat (n : ℕ) (h : n < 2048) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The least of the place numbers at which `f` is smallest, the other places counting as 1024, is the first such place. -/
theorem fold_minsi (f : Fin 1024 → ℝ) (g : Fin 1024 → BitVec 32)
    (hg : ∀ k, g k = if (f k : EReal) = (f (first f) : EReal) then BitVec.ofNat 32 k.val else 1024#32) :
    (Finset.univ : Finset (Fin 1024)).fold IntOp.minsi 2147483647#32 g = BitVec.ofNat 32 (first f).val := by
  apply BitVec.eq_of_toInt_eq
  rw [← Finset.fold_hom (op := IntOp.minsi) (op' := (min : ℤ → ℤ → ℤ)) (m := BitVec.toInt) toInt_minsi]
  have hv : ∀ k, (g k).toInt = if (f k : EReal) = (f (first f) : EReal) then (k.val : ℤ) else 1024 := fun k => by
    rw [hg k]; split
    · exact toInt_ofNat k.val (by omega)
    · rfl
  have h1 : (2147483647#32).toInt = 2147483647 := by decide
  rw [toInt_ofNat (first f).val (by omega), h1]
  apply le_antisymm
  · refine Finset.fold_min_le _ |>.mpr (Or.inr ⟨first f, Finset.mem_univ _, ?_⟩)
    rw [hv, if_pos rfl]
  · refine Finset.le_fold_min _ |>.mpr ⟨?_, fun k _ => ?_⟩
    · omega
    · rw [hv]; split
      · rename_i h
        by_contra hlt
        have := first_lt f k (by rw [Fin.lt_def]; omega)
        rw [EReal.coe_eq_coe_iff.mp h] at this
        exact lt_irrefl _ this
      · omega

/-- A fold whose operation keeps `p` against everything met, and picks one of its two sides, ends at `p` when it meets `p`. -/
theorem foldl_absorb {α : Type} (op : α → α → α) (p : α) (S : α → Prop) (hpick : ∀ x y, op x y = x ∨ op x y = y)
    (hl : ∀ q, S q → op p q = p) (hr : ∀ q, S q → op q p = p) :
    ∀ (L : List α) (a : α), S a → (∀ q ∈ L, S q) → (p ∈ L ∨ a = p) → L.foldl op a = p
  | [], a, _, _, h => by
    rcases h with h | h
    · exact absurd h (by simp)
    · exact h
  | x :: L, a, ha, hL, h => by
    have hx : S x := hL x (by simp)
    have hox : S (op a x) := by rcases hpick a x with e | e <;> rw [e] <;> assumption
    refine foldl_absorb op p S hpick hl hr L (op a x) hox (fun q hq => hL q (by simp [hq])) ?_
    rcases h with h | h
    · rcases List.mem_cons.mp h with e | h
      · exact Or.inr (by rw [← e]; exact hr a ha)
      · exact Or.inl h
    · exact Or.inr (by rw [h]; exact hl x hx)

variable (Z : Fin 16384 → Fin 64 → ℝ) (W : Fin 1024 → Fin 64 → ℝ)

/-- The squared distance of row `b` of `Z` from row `k` of the table. -/
def dist (b : Fin 16384) (k : Fin 1024) : ℝ := ∑ d, (Z b d - W k d) * (Z b d - W k d)

/-- The first table row nearest to row `b`. -/
def near (b : Fin 16384) : Fin 1024 := first (dist Z W b)

/-- One where `k` is the nearest row of `b`, zero elsewhere. -/
def hit (b : Fin 16384) (k : Fin 1024) : ℝ := if k = near Z W b then 1 else 0

/-- The share of the rows of `Z` whose nearest table row is `k`. -/
def share (k : Fin 1024) : ℝ := (∑ b, hit Z W b k) / 16384

/-- The squared distance from the two squared norms and the products with minus two times the table. -/
theorem dist_expand (b : Fin 16384) (k : Fin 1024) :
    (∑ d, Z b d * Z b d) + (∑ d, W k d * W k d) + ∑ d, ((-2) * W k d) * Z b d = dist Z W b k := by
  unfold dist
  rw [← Finset.sum_add_distrib, ← Finset.sum_add_distrib]
  exact Finset.sum_congr rfl fun d _ => by ring

/-- The same from the two squared norms less twice the product. -/
theorem dist_expand' (b : Fin 16384) (k : Fin 1024) :
    (∑ d, Z b d * Z b d) + (∑ d, W k d * W k d) - 2 * (∑ d, Z b d * W k d) = dist Z W b k := by
  unfold dist
  rw [Finset.mul_sum, ← Finset.sum_add_distrib, ← Finset.sum_sub_distrib]
  exact Finset.sum_congr rfl fun d _ => by ring

/-- The sum over the table rows of the encodings times a column picks the nearest row's entry. -/
theorem sum_hit (b : Fin 16384) (g : Fin 1024 → ℝ) : ∑ k, hit Z W b k * g k = g (near Z W b) := by
  unfold hit
  simp

/-- Row `1024 t + b` of all rows. -/
def row (t : Fin 16) (b : Fin 1024) : Fin 16384 := ⟨1024 * t.val + b.val, by omega⟩

/-- A sum over all rows is the sum over the sixteen blocks of the sums over a block's rows. -/
theorem sum_rows (g : Fin 16384 → ℝ) : ∑ t : Fin 16, ∑ b : Fin 1024, g (row t b) = ∑ i, g i := by
  rw [← Fintype.sum_prod_type' (f := fun (t : Fin 16) (b : Fin 1024) => g (row t b))]
  refine Fintype.sum_equiv (finProdFinEquiv (m := 16) (n := 1024)) _ g fun x => ?_
  congr 1
  ext
  simp [row, finProdFinEquiv]
  omega

end Cert.Nearest

end
-- ==== Proof.Arrays.lean ====
/- What the kernel's arrays hold, index by index: each input block as rows of its array, each output array as the blocks its grid points store. -/
module

public import proofs.«01_k».proof.Proof.Block
public import proofs.«01_k».proof.Proof.Nearest
public import Idealize.ShloMosaic.Lib.Pointwise.Index
public import Idealize.ShloMosaic.Lib.Pipeline.Cells

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Nearest

variable {F : FTy → Type} [FloatOps F]
variable (m : (ℓ : Loc nD τ sig) → Buf (Elt F) ℓ)

/-- The grid has sixteen points. -/
theorem hN : cfg0.N = 16 := N_0

/-- A grid point as one of sixteen. -/
abbrev pt (t : Fin cfg0.N) : Fin 16 := Fin.cast hN t

/-- The block of rows at a point is the one of the point's number. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The narrowed table has one block. -/
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The scaled table has one block. -/
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The block of row norms at a point is the one of the point's number. -/
theorem index3 : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)
/-- The table norms have one block. -/
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- The block of quantised rows at a point is the one of the point's number. -/
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
/-- The block of encodings at a point is the one of the point's number. -/
theorem index6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
/-- The block of indices at a point is the one of the point's number. -/
theorem index7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)

/-- The block of rows at a point, read from the whole array. -/
theorem zB_apply (c : Dev nD) (t : Fin cfg0.N) (b : Fin 1024) (d : Fin 64) :
    zB m c t (ix2 b d) = V m c main_arg0 (ix2 (row (pt t) b) d) := by
  obtain ⟨e0, e1⟩ := index0 t
  refine congrArg (V m c main_arg0) (?_ : ((cfg0.win 0).blk t).view.emb (ix2 b d) = _)
  funext a; apply Fin.ext
  match a with
  | ⟨0, _⟩ => show win0_0.index t (0 : Fin 2) * 1024 + 1 * b.val = 1024 * t.val + b.val; omega
  | ⟨1, _⟩ => show win0_0.index t (1 : Fin 2) * 64 + 1 * d.val = d.val; omega

/-- The narrowed table is the whole array at every point. -/
theorem hB_apply (c : Dev nD) (t : Fin cfg0.N) (k : Fin 1024) (d : Fin 64) :
    hB m c t (ix2 k d) = V m c main_v0 (ix2 k d) := by
  obtain ⟨e0, e1⟩ := index1 t
  refine congrArg (V m c main_v0) (?_ : ((cfg0.win 1).blk t).view.emb (ix2 k d) = _)
  funext a; apply Fin.ext
  match a with
  | ⟨0, _⟩ => show win0_1.index t (0 : Fin 2) * 1024 + 1 * k.val = k.val; omega
  | ⟨1, _⟩ => show win0_1.index t (1 : Fin 2) * 64 + 1 * d.val = d.val; omega

/-- The table times minus two is the whole array at every point. -/
theorem wB_apply (c : Dev nD) (t : Fin cfg0.N) (k : Fin 1024) (d : Fin 64) :
    wB m c t (ix2 k d) = V m c main_v2 (ix2 k d) := by
  obtain ⟨e0, e1⟩ := index2 t
  refine congrArg (V m c main_v2) (?_ : ((cfg0.win 2).blk t).view.emb (ix2 k d) = _)
  funext a; apply Fin.ext
  match a with
  | ⟨0, _⟩ => show win0_2.index t (0 : Fin 2) * 1024 + 1 * k.val = k.val; omega
  | ⟨1, _⟩ => show win0_2.index t (1 : Fin 2) * 64 + 1 * d.val = d.val; omega

/-- The block of the rows' squared norms at a point, read from the whole array. -/
theorem znB_apply (c : Dev nD) (t : Fin cfg0.N) (b : Fin 1024) :
    znB m c t (ix2 0 b) = V m c main_v5 (ix2 0 (row (pt t) b)) := by
  obtain ⟨e0, e1⟩ := index3 t
  refine congrArg (V m c main_v5) (?_ : ((cfg0.win 3).blk t).view.emb (ix2 0 b) = _)
  funext a; apply Fin.ext
  match a with
  | ⟨0, _⟩ => show win0_3.index t (0 : Fin 2) * 1 + 1 * 0 = 0; omega
  | ⟨1, _⟩ => show win0_3.index t (1 : Fin 2) * 1024 + 1 * b.val = 1024 * t.val + b.val; omega

/-- The table rows' squared norms are the whole array at every point. -/
theorem cnB_apply (c : Dev nD) (t : Fin cfg0.N) (k : Fin 1024) :
    cnB m c t (ix2 k 0) = V m c main_v8 (ix2 k 0) := by
  obtain ⟨e0, e1⟩ := index4 t
  refine congrArg (V m c main_v8) (?_ : ((cfg0.win 4).blk t).view.emb (ix2 k 0) = _)
  funext a; apply Fin.ext
  match a with
  | ⟨0, _⟩ => show win0_4.index t (0 : Fin 2) * 1024 + 1 * k.val = k.val; omega
  | ⟨1, _⟩ => show win0_4.index t (1 : Fin 2) * 1 + 1 * 0 = 0; omega

/-- Distinct points store distinct blocks of the quantised rows. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext
    ((index5 t).1.symm.trans ((congrFun h (0 : Fin 2)).trans (index5 t').1)))

/-- Distinct points store distinct blocks of the encodings. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext
    ((index6 t).1.symm.trans ((congrFun h (0 : Fin 2)).trans (index6 t').1)))

/-- Distinct points store distinct blocks of the indices. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext
    ((index7 t).1.symm.trans ((congrFun h (0 : Fin 3)).trans (index7 t').1)))

/-- The array of quantised rows after the run. -/
theorem arr5 (c : Dev nD) (t : Fin cfg0.N) (b : Fin 1024) (d : Fin 64) :
    ((dats m 0 c).arrAt 5 cfg0.N : S16384x64.Idx → Elt F .f32) (ix2 (row (pt t) b) d)
      = k0_pay14 (zB m c t) (wB m c t) (znB m c t) (cnB m c t) (hB m c t) (ix2 b d) := by
  obtain ⟨e0, e1⟩ := index5 t
  have h := congrFun ((dats m 0 c).read_blk_arrAt_eq_flushed 5 disjoint5 cfg0.N t t.isLt (flush0_5 t)) (ix2 b d)
  have hr : (dats m 0 c).flushed 5 t (ix2 b d) = k0_pay14 (zB m c t) (wB m c t) (znB m c t) (cnB m c t) (hB m c t) (ix2 b d) := by
    show (dats m 0 c).after 5 t (ix2 b d) = _
    rw [after0_5]; exact congrFun (outs_5 m c t) (ix2 b d)
  rw [← hr, ← h]
  refine congrArg ((dats m 0 c).arrAt 5 cfg0.N) (?_ : _ = ((cfg0.win 5).blk t).view.emb (ix2 b d))
  funext a; apply Fin.ext
  match a with
  | ⟨0, _⟩ => show 1024 * t.val + b.val = win0_5.index t (0 : Fin 2) * 1024 + 1 * b.val; omega
  | ⟨1, _⟩ => show d.val = win0_5.index t (1 : Fin 2) * 64 + 1 * d.val; omega

/-- The array of encodings after the run. -/
theorem arr6 (c : Dev nD) (t : Fin cfg0.N) (b k : Fin 1024) :
    ((dats m 0 c).arrAt 6 cfg0.N : S16384x1024.Idx → Elt F .f32) (ix2 (row (pt t) b) k)
      = k0_pay15 (zB m c t) (wB m c t) (znB m c t) (cnB m c t) (ix2 b k) := by
  obtain ⟨e0, e1⟩ := index6 t
  have h := congrFun ((dats m 0 c).read_blk_arrAt_eq_flushed 6 disjoint6 cfg0.N t t.isLt (flush0_6 t)) (ix2 b k)
  have hr : (dats m 0 c).flushed 6 t (ix2 b k) = k0_pay15 (zB m c t) (wB m c t) (znB m c t) (cnB m c t) (ix2 b k) := by
    show (dats m 0 c).after 6 t (ix2 b k) = _
    rw [after0_6]; exact congrFun (outs_6 m c t) (ix2 b k)
  rw [← hr, ← h]
  refine congrArg ((dats m 0 c).arrAt 6 cfg0.N) (?_ : _ = ((cfg0.win 6).blk t).view.emb (ix2 b k))
  funext a; apply Fin.ext
  match a with
  | ⟨0, _⟩ => show 1024 * t.val + b.val = win0_6.index t (0 : Fin 2) * 1024 + 1 * b.val; omega
  | ⟨1, _⟩ => show k.val = win0_6.index t (1 : Fin 2) * 1024 + 1 * k.val; omega

/-- The array of indices after the run. -/
theorem arr7 (c : Dev nD) (t : Fin cfg0.N) (b : Fin 1024) :
    ((dats m 0 c).arrAt 7 cfg0.N : S16x1x1024.Idx → Elt F .i32) (ix3 (pt t) 0 b)
      = k0_pay16 (zB m c t) (wB m c t) (znB m c t) (cnB m c t) (ix3 0 0 b) := by
  obtain ⟨e0, e1, e2⟩ := index7 t
  have h := congrFun ((dats m 0 c).read_blk_arrAt_eq_flushed 7 disjoint7 cfg0.N t t.isLt (flush0_7 t)) (ix3 0 0 b)
  have hr : (dats m 0 c).flushed 7 t (ix3 0 0 b) = k0_pay16 (zB m c t) (wB m c t) (znB m c t) (cnB m c t) (ix3 0 0 b) := by
    show (dats m 0 c).after 7 t (ix3 0 0 b) = _
    rw [after0_7]; exact congrFun (outs_7 m c t) (ix3 0 0 b)
  rw [← hr, ← h]
  refine congrArg ((dats m 0 c).arrAt 7 cfg0.N) (?_ : _ = ((cfg0.win 7).blk t).view.emb (ix3 0 0 b))
  funext a; apply Fin.ext
  match a with
  | ⟨0, _⟩ => show t.val = win0_7.index t (0 : Fin 3) * 1 + 1 * 0; omega
  | ⟨1, _⟩ => show 0 = win0_7.index t (1 : Fin 3) * 1 + 1 * 0; omega
  | ⟨2, _⟩ => show b.val = win0_7.index t (2 : Fin 3) * 1024 + 1 * b.val; omega

/-- The last grid point. -/
abbrev lastPt : Fin cfg0.N := ⟨15, lt_of_lt_of_eq (by decide) hN.symm⟩

/-- Two points at the end of a run of sixteen are the same point. -/
theorem last_unique (t t' : Fin cfg0.N) (h : t.val % 16 = 15) (h' : t'.val % 16 = 15) : t = t' := by
  have := lt_of_lt_of_eq t.isLt hN
  have := lt_of_lt_of_eq t'.isLt hN
  exact Fin.ext (by omega)

/-- The one-entry array of the loss has one block. -/
theorem index8 : win0_8.index lastPt (0 : Fin 2) = 0 ∧ win0_8.index lastPt (1 : Fin 2) = 0 :=
  (by decide +kernel : ∀ t : Fin grid0.N, win0_8.index t (0 : Fin 2) = 0 ∧ win0_8.index t (1 : Fin 2) = 0) lastPt

/-- The one-entry array of the perplexity has one block. -/
theorem index9 : win0_9.index lastPt (0 : Fin 2) = 0 ∧ win0_9.index lastPt (1 : Fin 2) = 0 :=
  (by decide +kernel : ∀ t : Fin grid0.N, win0_9.index t (0 : Fin 2) = 0 ∧ win0_9.index t (1 : Fin 2) = 0) lastPt

/-- The one-entry array of the usage has one block. -/
theorem index10 : win0_10.index lastPt (0 : Fin 2) = 0 ∧ win0_10.index lastPt (1 : Fin 2) = 0 :=
  (by decide +kernel : ∀ t : Fin grid0.N, win0_10.index t (0 : Fin 2) = 0 ∧ win0_10.index t (1 : Fin 2) = 0) lastPt

/-- The loss's array after the run holds what the last point stored. -/
theorem arr8 (c : Dev nD) :
    ((dats m 0 c).arrAt 8 cfg0.N : S1x1.Idx → Elt F .f32) (ix2 0 0) = (outsAt0 m c lastPt.val lastPt.isLt).2.2.2.1 (ix2 0 0) := by
  obtain ⟨e0, e1⟩ := index8
  have h := congrFun ((dats m 0 c).read_blk_arrAt_eq_flushed 8
    (fun t t' h h' hne => absurd (last_unique t t' ((flush0_8 t).mp h) ((flush0_8 t').mp h')) hne)
    cfg0.N lastPt lastPt.isLt ((flush0_8 lastPt).mpr rfl)) (ix2 0 0)
  have hr : (dats m 0 c).flushed 8 lastPt (ix2 0 0) = (outsAt0 m c lastPt.val lastPt.isLt).2.2.2.1 (ix2 0 0) := by
    show (dats m 0 c).after 8 lastPt (ix2 0 0) = _
    rw [after0_8]
  rw [← hr, ← h]
  refine congrArg ((dats m 0 c).arrAt 8 cfg0.N) (?_ : _ = ((cfg0.win 8).blk lastPt).view.emb (ix2 0 0))
  funext a; apply Fin.ext
  match a with
  | ⟨0, _⟩ => show 0 = win0_8.index lastPt (0 : Fin 2) * 1 + 1 * 0; omega
  | ⟨1, _⟩ => show 0 = win0_8.index lastPt (1 : Fin 2) * 1 + 1 * 0; omega

/-- The perplexity's array after the run holds what the last point stored. -/
theorem arr9 (c : Dev nD) :
    ((dats m 0 c).arrAt 9 cfg0.N : S1x1.Idx → Elt F .f32) (ix2 0 0) = (outsAt0 m c lastPt.val lastPt.isLt).2.2.2.2.1 (ix2 0 0) := by
  obtain ⟨e0, e1⟩ := index9
  have h := congrFun ((dats m 0 c).read_blk_arrAt_eq_flushed 9
    (fun t t' h h' hne => absurd (last_unique t t' ((flush0_9 t).mp h) ((flush0_9 t').mp h')) hne)
    cfg0.N lastPt lastPt.isLt ((flush0_9 lastPt).mpr rfl)) (ix2 0 0)
  have hr : (dats m 0 c).flushed 9 lastPt (ix2 0 0) = (outsAt0 m c lastPt.val lastPt.isLt).2.2.2.2.1 (ix2 0 0) := by
    show (dats m 0 c).after 9 lastPt (ix2 0 0) = _
    rw [after0_9]
  rw [← hr, ← h]
  refine congrArg ((dats m 0 c).arrAt 9 cfg0.N) (?_ : _ = ((cfg0.win 9).blk lastPt).view.emb (ix2 0 0))
  funext a; apply Fin.ext
  match a with
  | ⟨0, _⟩ => show 0 = win0_9.index lastPt (0 : Fin 2) * 1 + 1 * 0; omega
  | ⟨1, _⟩ => show 0 = win0_9.index lastPt (1 : Fin 2) * 1 + 1 * 0; omega

/-- The usage's array after the run holds what the last point stored. -/
theorem arr10 (c : Dev nD) :
    ((dats m 0 c).arrAt 10 cfg0.N : S1x1.Idx → Elt F .f32) (ix2 0 0) = (outsAt0 m c lastPt.val lastPt.isLt).2.2.2.2.2.1 (ix2 0 0) := by
  obtain ⟨e0, e1⟩ := index10
  have h := congrFun ((dats m 0 c).read_blk_arrAt_eq_flushed 10
    (fun t t' h h' hne => absurd (last_unique t t' ((flush0_10 t).mp h) ((flush0_10 t').mp h')) hne)
    cfg0.N lastPt lastPt.isLt ((flush0_10 lastPt).mpr rfl)) (ix2 0 0)
  have hr : (dats m 0 c).flushed 10 lastPt (ix2 0 0) = (outsAt0 m c lastPt.val lastPt.isLt).2.2.2.2.2.1 (ix2 0 0) := by
    show (dats m 0 c).after 10 lastPt (ix2 0 0) = _
    rw [after0_10]
  rw [← hr, ← h]
  refine congrArg ((dats m 0 c).arrAt 10 cfg0.N) (?_ : _ = ((cfg0.win 10).blk lastPt).view.emb (ix2 0 0))
  funext a; apply Fin.ext
  match a with
  | ⟨0, _⟩ => show 0 = win0_10.index lastPt (0 : Fin 2) * 1 + 1 * 0; omega
  | ⟨1, _⟩ => show 0 = win0_10.index lastPt (1 : Fin 2) * 1 + 1 * 0; omega

end Cert.KernelIdeal.Value

end
-- ==== Proof.Consts.lean ====
/- The constants of the two programs as extended reals, and one-bit words as numbers. -/
module

public import Idealize.ShloMosaic.PureOps.Ideal.Laws
public import Idealize.ShloMosaic.Lib.Pointwise

@[expose] public section

noncomputable section

open Idealize.ShloMosaic

namespace Cert.Nearest

/-- The pattern of infinity is the greatest extended real. -/
theorem c_inf : Ideal.ofBits .f32 0x7F800000#32 = ⊤ := by
  simp [Ideal.ofBits, Ideal.ieee]

/-- The pattern of minus two. -/
theorem c_neg_two : Ideal.ofBits .f32 0xC0000000#32 = ((-2 : ℝ) : EReal) := by
  simp [Ideal.ofBits, Ideal.ieee, -EReal.coe_mul]; norm_num

/-- The pattern of two. -/
theorem c_two : Ideal.ofBits .f32 0x40000000#32 = ((2 : ℝ) : EReal) := by
  simp [Ideal.ofBits, Ideal.ieee, -EReal.coe_mul]; norm_num

/-- The pattern of the reciprocal of 16384. -/
theorem c_inv_rows : Ideal.ofBits .f32 0x38800000#32 = ((1 / 16384 : ℝ) : EReal) := by
  simp [Ideal.ofBits, Ideal.ieee, -EReal.coe_mul]; norm_num

/-- The pattern of 16384. -/
theorem c_rows : Ideal.ofBits .f32 0x46800000#32 = ((16384 : ℝ) : EReal) := by
  simp [Ideal.ofBits, Ideal.ieee, -EReal.coe_mul]; norm_num

/-- The pattern of the reciprocal of 1048576. -/
theorem c_inv_entries : Ideal.ofBits .f32 0x35800000#32 = ((1 / 1048576 : ℝ) : EReal) := by
  simp [Ideal.ofBits, Ideal.ieee, -EReal.coe_mul]; norm_num

/-- The pattern of 1048576. -/
theorem c_entries : Ideal.ofBits .f32 0x49800000#32 = ((1048576 : ℝ) : EReal) := by
  simp [Ideal.ofBits, Ideal.ieee, -EReal.coe_mul]; norm_num

/-- A one-bit word widened and read signed is the word read unsigned. -/
theorem sitofp_setWidth (w : BitVec 1) :
    FloatOps.sitofp (F := Ideal) .f32 (BitVec.setWidth 32 w) = FloatOps.uitofp (F := Ideal) .f32 w := by
  have h : ∀ w : BitVec 1, ((BitVec.setWidth 32 w).toInt : ℤ) = (w.toNat : ℤ) := by decide
  show (((BitVec.setWidth 32 w).toInt : ℝ) : EReal) = ((w.toNat : ℝ) : EReal)
  rw [h w]; simp

/-- The unsigned reading of an equality test of words. -/
theorem uitofp_eq (x y : BitVec 32) :
    FloatOps.uitofp (F := Ideal) .f32 (IntOp.cmpi .eq x y) = if x = y then (1 : EReal) else 0 := by
  show (((IntOp.cmpi .eq x y).toNat : ℝ) : EReal) = _
  by_cases h : x = y <;> simp [IntOp.cmpi, h]

/-- A choice by an equality test of extended reals. -/
theorem select_oeq (x y : EReal) (a b : BitVec 32) :
    Scalar.select (FloatOps.cmpf (F := Ideal) (φ := .f32) .oeq x y) a b = if x = y then a else b := by
  rw [Ideal.cmpf_def]
  by_cases h : x = y <;> simp [Scalar.select, Ideal.cmp, h]

/-- Small words are equal only when their numbers are. -/
theorem ofNat_inj (a b : Fin 1024) : BitVec.ofNat 32 a.val = BitVec.ofNat 32 b.val ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · intro h; rw [h]

end Cert.Nearest

end
-- ==== Proof.Inputs.lean ====
/- What the kernel's input arrays hold over the extended reals once the host operations before the grid have run. -/
module

public import proofs.«01_k».proof.Proof.Gen.KernelIdeal.Frame
public import proofs.«01_k».proof.Proof.Consts

@[expose] public section

set_option maxRecDepth 16384

noncomputable section

open Idealize.ShloMosaic Idealize.ShloMosaic.TcCoe Idealize.SL.Sem Idealize.ShloMosaic.StableHlo

namespace Cert.KernelIdeal.Value

open Cert.KernelIdeal Cert.KernelIdeal.Gen Cert.Nearest

variable (m : (ℓ : Loc nD τ sig) → Buf (Elt Ideal) ℓ)

/-- The rows as launched. -/
abbrev argZ (c : Dev nD) : FVec Ideal S16384x64 .f32 := m ((c : Thread nD τ).loc main_arg0)

/-- The table as launched. -/
abbrev argW (c : Dev nD) : FVec Ideal S1024x64 .f32 := m ((c : Thread nD τ).loc main_arg1)

/-- The narrowed table holds the table's entries. -/
theorem V_v0_apply (c : Dev nD) (k : Fin 1024) (d : Fin 64) : (V m c main_v0 : S1024x64.Idx → EReal) (ix2 k d) = argW m c (ix2 k d) := by
  have h : V m c main_v0 = truncf .bf16 (argW m c) bitsLt_bf16_f32 := by
    show StableHlo.after (List.flatten [hostOps0]) (fun b => m (c, b)) (Proc.devRef .tc main_v0) = _
    rfl
  rw [h]; rfl

/-- The scaled table holds minus two times the table's entries. -/
theorem V_v2_apply (c : Dev nD) (k : Fin 1024) (d : Fin 64) :
    (V m c main_v2 : S1024x64.Idx → EReal) (ix2 k d) = ((-2 : ℝ) : EReal) * argW m c (ix2 k d) := by
  have h : V m c main_v2 = mulf (broadcastInDim S1024x64 ![] bcast_S_S1024x64 (constant S_ .f32 0xC0000000#32)) (argW m c) := by
    unfold V V0; after_results_simp <;> rfl
  rw [h]; pointwise; rw [c_neg_two]

/-- The row norms are the sums of the rows' squares. -/
theorem V_v5_apply (c : Dev nD) (i : Fin 16384) :
    (V m c main_v5 : S1x16384.Idx → EReal) (ix2 0 i) = ∑ d : Fin 64, argZ m c (ix2 i d) * argZ m c (ix2 i d) := by
  have h : V m c main_v5 = broadcastInDim S1x16384 ![1] bcast_S16384_S1x16384_1
      (Host.reduceAdd (mulf (argZ m c) (argZ m c)) (constant S_ .f32 0x00000000#32) reducesTo_S16384x64_S16384_d1 h_S_) := by
    unfold V V0; after_results_simp <;> rfl
  rw [h]; pointwise

/-- The table norms are the sums of the table rows' squares. -/
theorem V_v8_apply (c : Dev nD) (k : Fin 1024) :
    (V m c main_v8 : S1024x1.Idx → EReal) (ix2 k 0) = ∑ d : Fin 64, argW m c (ix2 k d) * argW m c (ix2 k d) := by
  have h : V m c main_v8 = broadcastInDim S1024x1 ![0] bcast_S1024_S1024x1_0
      (Host.reduceAdd (mulf (argW m c) (argW m c)) (constant S_ .f32 0x00000000#32) reducesTo_S1024x64_S1024_d1 h_S_) := by
    unfold V V0; after_results_simp <;> rfl
  rw [h]; pointwise

end Cert.KernelIdeal.Value

end
-- ==== Proof.Read.lean ====
/- The kernel's named payloads over the extended reals, read at an index: distances, minima, indices, encodings, quantised rows, the sums of a block,
   and the three numbers the last point stores. -/
module

public import proofs.«01_k».proof.Proof.Gen.KernelIdeal.Skeleton
public import proofs.«01_k».proof.Proof.Consts
public import Idealize.ShloMosaic.Lib.Pointwise

@[expose] public section

set_option maxRecDepth 16384

noncomputable section

open Idealize.ShloMosaic

namespace Cert.KernelIdeal.Value

open Cert.KernelIdeal Cert.KernelIdeal.Gen Cert.Nearest

variable (v0 v1 : Vec Ideal S1024x64 .f32) (v3 : Vec Ideal S1x1024 .f32) (v5 : Vec Ideal S1024x1 .f32)

/-- The distances of a block at a table row and a block row: the two squared norms, plus the contraction. -/
theorem pay10_apply (k b : Fin 1024) :
    k0_pay10 v0 v1 v3 v5 (ix2 k b) = (v3 (ix2 0 b) + v5 (ix2 k 0)) + ∑ d : Fin 64, v1 (ix2 k d) * v0 (ix2 b d) := by
  unfold k0_pay10
  pointwise

/-- The smallest distance of a block row is the minimum over the table rows. -/
theorem pay11_apply (b : Fin 1024) :
    k0_pay11 v0 v1 v3 v5 (ix2 0 b)
      = (Finset.univ : Finset (Fin 1024)).fold (min : EReal → EReal → EReal) ⊤ (fun k => k0_pay10 v0 v1 v3 v5 (ix2 k b)) := by
  unfold k0_pay11
  pointwise
  rw [c_inf]

/-- The index of a block row is the least of the table row numbers at the minimum, the others counting as 1024. -/
theorem pay12_apply (b : Fin 1024) :
    k0_pay12 v0 v1 v3 v5 (ix2 0 b) = (Finset.univ : Finset (Fin 1024)).fold IntOp.minsi 2147483647#32
      (fun k => if k0_pay10 v0 v1 v3 v5 (ix2 k b) = k0_pay11 v0 v1 v3 v5 (ix2 0 b) then BitVec.ofNat 32 k.val else 1024#32) := by
  unfold k0_pay12
  pointwise

/-- A block row hits a table row when that row's number is its index. -/
theorem pay13_apply (b k : Fin 1024) :
    k0_pay13 v0 v1 v3 v5 (ix2 b k) = IntOp.cmpi .eq (BitVec.ofNat 32 k.val) (k0_pay12 v0 v1 v3 v5 (ix2 0 b)) := by
  unfold k0_pay13
  pointwise

/-- The encoding is the hit, widened and read as a number. -/
theorem pay15_apply (b k : Fin 1024) :
    k0_pay15 v0 v1 v3 v5 (ix2 b k) = FloatOps.sitofp (F := Ideal) .f32 (BitVec.setWidth 32 (k0_pay13 v0 v1 v3 v5 (ix2 b k))) := by
  unfold k0_pay15
  pointwise

/-- The quantised row is the sum over the table rows of the encoding times the table's entry. -/
theorem pay14_apply (v28 : Vec Ideal S1024x64 .bf16) (b : Fin 1024) (d : Fin 64) :
    k0_pay14 v0 v1 v3 v5 v28 (ix2 b d) = ∑ k : Fin 1024, k0_pay15 v0 v1 v3 v5 (ix2 b k) * v28 (ix2 k d) := by
  unfold k0_pay14 k0_pay15
  pointwise

/-- The stored index is the index found. -/
theorem pay16_apply (b : Fin 1024) : k0_pay16 v0 v1 v3 v5 (ix3 0 0 b) = k0_pay12 v0 v1 v3 v5 (ix2 0 b) := by
  unfold k0_pay16
  pointwise

/-- The column sums of a block. -/
theorem pay1_apply (v : FVec Ideal S1024x1024 .f32) (k : Fin 1024) : k0_pay1 v (ix2 0 k) = ∑ b : Fin 1024, v (ix2 b k) := by
  unfold k0_pay1
  pointwise

/-- The sum of a block's minima. -/
theorem pay2_apply (v : FVec Ideal S1x1024 .f32) : k0_pay2 v = ∑ b : Fin 1024, v (ix2 0 b) := by
  unfold k0_pay2
  pointwise
  simp

/-- The first block's column sums. -/
theorem pay3_apply (v : FVec Ideal S1024x1024 .f32) (k : Fin 1024) : k0_pay3 v (ix2 0 k) = ∑ b : Fin 1024, v (ix2 b k) := by
  unfold k0_pay3
  rw [← pay1_apply]
  pointwise

/-- A later block's column sums added to those carried. -/
theorem pay4_apply (v : FVec Ideal S1024x1024 .f32) (a : Vec Ideal S1x1024 .f32) (k : Fin 1024) :
    k0_pay4 v a (ix2 0 k) = a (ix2 0 k) + ∑ b : Fin 1024, v (ix2 b k) := by
  unfold k0_pay4
  rw [← pay1_apply]
  pointwise

/-- The counts scaled to shares. -/
theorem pay6_apply (v : Vec Ideal S1x1024 .f32) (k : Fin 1024) :
    k0_pay6 v (ix2 0 k) = v (ix2 0 k) * Ideal.ofBits .f32 0x38800000#32 := by
  unfold k0_pay6
  pointwise

/-- The loss scaled to a mean. -/
theorem pay7_apply (v : Elt Ideal .f32) : k0_pay7 v (ix2 0 0) = v * Ideal.ofBits .f32 0x35800000#32 := by
  unfold k0_pay7
  pointwise

/-- The perplexity of the shares. -/
theorem pay8_apply (v : Vec Ideal S1x1024 .f32) :
    k0_pay8 v (ix2 0 0)
      = Ideal.exp (0 - ∑ k : Fin 1024, k0_pay6 v (ix2 0 k) * Ideal.log (k0_pay6 v (ix2 0 k) + Ideal.ofBits .f32 0x2EDBE6FF#32)) := by
  unfold k0_pay8
  pointwise
  simp
  rfl

/-- The part of the table rows whose share is above the threshold. -/
theorem pay9_apply (v : Vec Ideal S1x1024 .f32) :
    k0_pay9 v (ix2 0 0)
      = Ideal.div (∑ k : Fin 1024, FloatOps.uitofp (F := Ideal) .f32 (Ideal.cmp .ogt (k0_pay6 v (ix2 0 k)) (Ideal.ofBits .f32 0x3A83126F#32)))
          (Ideal.ofBits .f32 0x44800000#32) := by
  unfold k0_pay9
  pointwise
  simp [Ideal.cmpf_def, sitofp_setWidth]

end Cert.KernelIdeal.Value

end
-- ==== Proof.KernelVal.lean ====
/- The kernel's values over the extended reals when every argument entry is a real number: each block's distances, minima, indices, encodings and
   quantised rows, the two carried sums after every grid point, and what the last point makes of them. -/
module

public import proofs.«01_k».proof.Proof.Arrays
public import proofs.«01_k».proof.Proof.Inputs
public import proofs.«01_k».proof.Proof.Read

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Nearest

variable (m : (ℓ : Loc nD τ sig) → Buf (Elt Ideal) ℓ) (c : Dev nD)
variable (Z : Fin 16384 → Fin 64 → ℝ) (W : Fin 1024 → Fin 64 → ℝ)
variable (hz : ∀ i d, argZ m c (ix2 i d) = ((Z i d : ℝ) : EReal)) (hw : ∀ k d, argW m c (ix2 k d) = ((W k d : ℝ) : EReal))

include hz hw

/-- The kernel's distances are the squared distances. -/
theorem pay10_val (t : Fin cfg0.N) (k b : Fin 1024) :
    k0_pay10 (zB m c t) (wB m c t) (znB m c t) (cnB m c t) (ix2 k b) = ((dist Z W (row (pt t) b) k : ℝ) : EReal) := by
  have hsum : ∑ d : Fin 64, (wB m c t (ix2 k d) : EReal) * zB m c t (ix2 b d)
      = ∑ d : Fin 64, (((-2 * W k d) * Z (row (pt t) b) d : ℝ) : EReal) := Finset.sum_congr rfl fun d _ => by
    have h1 : (wB m c t (ix2 k d) : EReal) = ((-2 : ℝ) : EReal) * ((W k d : ℝ) : EReal) :=
      (wB_apply m c t k d).trans ((V_v2_apply m c k d).trans (congrArg (fun x : EReal => ((-2 : ℝ) : EReal) * x) (hw k d)))
    have h2 : (zB m c t (ix2 b d) : EReal) = ((Z (row (pt t) b) d : ℝ) : EReal) :=
      (zB_apply m c t b d).trans (hz (row (pt t) b) d)
    rw [h1, h2, ← EReal.coe_mul, ← EReal.coe_mul]
  rw [pay10_apply, ← dist_expand, znB_apply, cnB_apply, V_v5_apply, V_v8_apply, hsum]
  simp only [hw, hz, ← EReal.coe_mul, ← coe_sum, ← EReal.coe_add]

/-- The smallest distance of a row is that of its nearest table row. -/
theorem pay11_val (t : Fin cfg0.N) (b : Fin 1024) :
    k0_pay11 (zB m c t) (wB m c t) (znB m c t) (cnB m c t) (ix2 0 b)
      = ((dist Z W (row (pt t) b) (near Z W (row (pt t) b)) : ℝ) : EReal) := by
  rw [pay11_apply]
  simp only [pay10_val m c Z W hz hw]
  exact fold_min _

/-- The index found for a row is that of its nearest table row. -/
theorem pay12_val (t : Fin cfg0.N) (b : Fin 1024) :
    k0_pay12 (zB m c t) (wB m c t) (znB m c t) (cnB m c t) (ix2 0 b) = BitVec.ofNat 32 (near Z W (row (pt t) b)).val := by
  rw [pay12_apply]
  refine fold_minsi (dist Z W (row (pt t) b)) _ fun k => ?_
  simp only [pay10_val m c Z W hz hw, pay11_val m c Z W hz hw]
  rfl

/-- The encoding of a row is one at its nearest table row and zero elsewhere. -/
theorem pay15_val (t : Fin cfg0.N) (b k : Fin 1024) :
    k0_pay15 (zB m c t) (wB m c t) (znB m c t) (cnB m c t) (ix2 b k) = ((hit Z W (row (pt t) b) k : ℝ) : EReal) := by
  rw [pay15_apply, pay13_apply, pay12_val m c Z W hz hw, sitofp_setWidth, uitofp_eq]
  simp only [ofNat_inj, hit]
  split <;> simp

/-- The quantised row is the nearest table row. -/
theorem pay14_val (t : Fin cfg0.N) (b : Fin 1024) (d : Fin 64) :
    k0_pay14 (zB m c t) (wB m c t) (znB m c t) (cnB m c t) (hB m c t) (ix2 b d) = ((W (near Z W (row (pt t) b)) d : ℝ) : EReal) := by
  rw [pay14_apply, ← sum_hit Z W (row (pt t) b) (fun k => W k d), coe_sum]
  refine Finset.sum_congr rfl fun k _ => ?_
  rw [pay15_val m c Z W hz hw, hB_apply, V_v0_apply, hw, EReal.coe_mul]

omit hz hw in
/-- The rows of block `n` whose nearest table row is `k`. -/
def blockHits (n : ℕ) (k : Fin 1024) : ℝ := if h : n < 16 then ∑ b, hit Z W (row ⟨n, h⟩ b) k else 0

omit hz hw in
/-- The sum of block `n`'s smallest distances. -/
def blockLoss (n : ℕ) : ℝ := if h : n < 16 then ∑ b, dist Z W (row ⟨n, h⟩ b) (near Z W (row ⟨n, h⟩ b)) else 0

/-- The column sums of a block's encodings. -/
theorem hits_val (t : Fin cfg0.N) (k : Fin 1024) :
    ∑ b : Fin 1024, k0_pay15 (zB m c t) (wB m c t) (znB m c t) (cnB m c t) (ix2 b k) = ((blockHits Z W t.val k : ℝ) : EReal) := by
  have h : t.val < 16 := lt_of_lt_of_eq t.isLt hN
  simp only [pay15_val m c Z W hz hw, ← coe_sum]
  rw [blockHits, dif_pos h]; rfl

/-- The sum of a block's smallest distances. -/
theorem loss_val (t : Fin cfg0.N) :
    k0_pay2 (k0_pay11 (zB m c t) (wB m c t) (znB m c t) (cnB m c t)) = ((blockLoss Z W t.val : ℝ) : EReal) := by
  have h : t.val < 16 := lt_of_lt_of_eq t.isLt hN
  rw [pay2_apply]
  simp only [pay11_val m c Z W hz hw, ← coe_sum]
  rw [blockLoss, dif_pos h]; rfl

/-- The carried counts after a grid point. -/
theorem counts_val : ∀ (n : ℕ) (hn : n < cfg0.N) (_ : n < 15) (k : Fin 1024),
    (outsAt0 m c n hn).2.2.2.2.2.2.1 (ix2 0 k) = ((∑ s ∈ Finset.range (n + 1), blockHits Z W s k : ℝ) : EReal)
  | 0, hn, _, k => by
    rw [counts_A m c ⟨0, hn⟩ (Nat.zero_mod 16) (Nat.not_succ_le_zero 0) (show ¬ 0 % 16 = 15 by decide), pay3_apply, hits_val m c Z W hz hw]
    simp
  | n + 1, hn, hl, k => by
    have h16 : n + 1 < 16 := lt_of_lt_of_eq hn hN
    rw [counts_B m c ⟨n + 1, hn⟩ (show ¬ (n + 1) % 16 = 0 by omega) (show 1 ≤ n + 1 by omega) (show ¬ (n + 1) % 16 = 15 by omega), pay4_apply, hits_val m c Z W hz hw]
    refine (congrArg (fun x : EReal => x + _) (counts_val n (by omega) (by omega) k)).trans ?_
    rw [← EReal.coe_add, Finset.sum_range_succ _ (n + 1)]

/-- The carried loss after a grid point. -/
theorem loss_acc_val : ∀ (n : ℕ) (hn : n < cfg0.N) (_ : n < 15),
    (outsAt0 m c n hn).2.2.2.2.2.2.2 e11 = ((∑ s ∈ Finset.range (n + 1), blockLoss Z W s : ℝ) : EReal)
  | 0, hn, _ => by
    rw [loss_A m c ⟨0, hn⟩ (Nat.zero_mod 16) (Nat.not_succ_le_zero 0) (show ¬ 0 % 16 = 15 by decide), loss_val m c Z W hz hw]
    simp
  | n + 1, hn, hl => by
    have h16 : n + 1 < 16 := lt_of_lt_of_eq hn hN
    rw [loss_B m c ⟨n + 1, hn⟩ (show ¬ (n + 1) % 16 = 0 by omega) (show 1 ≤ n + 1 by omega) (show ¬ (n + 1) % 16 = 15 by omega)]
    show k0_pay5 _ _ = _
    unfold k0_pay5
    show _ + k0_pay2 _ = _
    rw [loss_val m c Z W hz hw]
    refine (congrArg (fun x : EReal => x + _) (loss_acc_val n (by omega) (by omega))).trans ?_
    rw [← EReal.coe_add, Finset.sum_range_succ _ (n + 1)]

end Cert.KernelIdeal.Value

end
-- ==== Proof.LastVal.lean ====
/- The three one-entry arrays after the run, over the extended reals when every argument entry is a real number. -/
module

public import proofs.«01_k».proof.Proof.KernelVal

@[expose] public section

set_option maxRecDepth 16384

noncomputable section

open Idealize.ShloMosaic Idealize.ShloMosaic.TcCoe Idealize.SL.Sem

namespace Cert.Nearest

/-- The sum of every row's squared distance to its nearest table row. -/
def total (Z : Fin 16384 → Fin 64 → ℝ) (W : Fin 1024 → Fin 64 → ℝ) : ℝ := ∑ i, dist Z W i (near Z W i)

end Cert.Nearest

namespace Cert.KernelIdeal.Value

open Cert.KernelIdeal Cert.KernelIdeal.Gen Cert.Nearest

variable (m : (ℓ : Loc nD τ sig) → Buf (Elt Ideal) ℓ) (c : Dev nD)
variable (Z : Fin 16384 → Fin 64 → ℝ) (W : Fin 1024 → Fin 64 → ℝ)

/-- The hits of the sixteen blocks are the hits of all the rows. -/
theorem hits_total (k : Fin 1024) : ∑ s ∈ Finset.range 16, blockHits Z W s k = ∑ i, hit Z W i k := by
  rw [Finset.sum_range, ← sum_rows fun i => hit Z W i k]
  exact Finset.sum_congr rfl fun s _ => dif_pos s.isLt

/-- The losses of the sixteen blocks are the loss of all the rows. -/
theorem loss_total : ∑ s ∈ Finset.range 16, blockLoss Z W s = total Z W := by
  rw [Finset.sum_range, total, ← sum_rows fun i => dist Z W i (near Z W i)]
  exact Finset.sum_congr rfl fun s _ => dif_pos s.isLt

variable (hz : ∀ i d, argZ m c (ix2 i d) = ((Z i d : ℝ) : EReal)) (hw : ∀ k d, argW m c (ix2 k d) = ((W k d : ℝ) : EReal))

include hz hw

/-- The counts the last point works with are the hits of all the rows. -/
theorem counts_last (k : Fin 1024) :
    k0_pay4 (k0_pay15 (zB m c lastPt) (wB m c lastPt) (znB m c lastPt) (cnB m c lastPt))
      (outsAt0 m c (lastPt.val - 1) (lt_of_le_of_lt (Nat.sub_le _ _) lastPt.isLt)).2.2.2.2.2.2.1 (ix2 0 k)
      = ((∑ i, hit Z W i k : ℝ) : EReal) := by
  rw [pay4_apply, hits_val m c Z W hz hw]
  refine (congrArg (fun x : EReal => x + _) (counts_val m c Z W hz hw 14 (lt_of_lt_of_eq (by decide) hN.symm) (by decide) k)).trans ?_
  rw [← EReal.coe_add, ← hits_total, Finset.sum_range_succ _ 15]

/-- The shares the last point works with. -/
theorem share_last (k : Fin 1024) :
    k0_pay6 (k0_pay4 (k0_pay15 (zB m c lastPt) (wB m c lastPt) (znB m c lastPt) (cnB m c lastPt))
      (outsAt0 m c (lastPt.val - 1) (lt_of_le_of_lt (Nat.sub_le _ _) lastPt.isLt)).2.2.2.2.2.2.1) (ix2 0 k)
      = ((share Z W k : ℝ) : EReal) := by
  rw [pay6_apply, counts_last m c Z W hz hw, c_inv_rows, ← EReal.coe_mul, share, mul_one_div]

/-- The loss after the run. -/
theorem arr8_val :
    ((dats m 0 c).arrAt 8 cfg0.N : S1x1.Idx → EReal) (ix2 0 0) = ((total Z W / 1048576 : ℝ) : EReal) := by
  refine (arr8 m c).trans ?_
  rw [outs_8 m c lastPt (by decide) (by decide) rfl, pay7_apply]
  have h : k0_pay5 (k0_pay11 (zB m c lastPt) (wB m c lastPt) (znB m c lastPt) (cnB m c lastPt))
      ((outsAt0 m c (lastPt.val - 1) (lt_of_le_of_lt (Nat.sub_le _ _) lastPt.isLt)).2.2.2.2.2.2.2 e11) = ((total Z W : ℝ) : EReal) := by
    unfold k0_pay5
    show _ + k0_pay2 _ = _
    rw [loss_val m c Z W hz hw]
    refine (congrArg (fun x : EReal => x + _) (loss_acc_val m c Z W hz hw 14 (lt_of_lt_of_eq (by decide) hN.symm) (by decide))).trans ?_
    rw [← EReal.coe_add, ← loss_total, Finset.sum_range_succ _ 15]
  rw [h, c_inv_entries, ← EReal.coe_mul, mul_one_div]

/-- The perplexity after the run. -/
theorem arr9_val :
    ((dats m 0 c).arrAt 9 cfg0.N : S1x1.Idx → EReal) (ix2 0 0)
      = Ideal.exp (0 - ∑ k, ((share Z W k : ℝ) : EReal) * Ideal.log (((share Z W k : ℝ) : EReal) + Ideal.ofBits .f32 0x2EDBE6FF#32)) := by
  refine (arr9 m c).trans ?_
  rw [outs_9 m c lastPt (by decide) (by decide) rfl, pay8_apply]
  simp only [share_last m c Z W hz hw]

/-- The usage after the run. -/
theorem arr10_val :
    ((dats m 0 c).arrAt 10 cfg0.N : S1x1.Idx → EReal) (ix2 0 0)
      = Ideal.div (∑ k, FloatOps.uitofp (F := Ideal) .f32 (Ideal.cmp .ogt ((share Z W k : ℝ) : EReal) (Ideal.ofBits .f32 0x3A83126F#32)))
          (Ideal.ofBits .f32 0x44800000#32) := by
  refine (arr10 m c).trans ?_
  rw [outs_10 m c lastPt (by decide) (by decide) rfl, pay9_apply]
  simp only [share_last m c Z W hz hw]

end Cert.KernelIdeal.Value

end
-- ==== Proof.KernelRun.lean ====
/- The kernel's run: the six results are the launch's arrays, four of them reshaped, and the arguments end unchanged. -/
module

public import proofs.«01_k».proof.Proof.Arrays
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ)

/-- The launch's indices as a vector. -/
abbrev resIdx (c : Dev nD) : IVec S16384 32 :=
  shapeCast S16384 ((dats m 0 c).arrAt 7 cfg0.N : Vec F S16x1x1024 .i32) shapeCasts_S16x1x1024_S16384

/-- The launch's loss as a scalar. -/
abbrev resLoss (c : Dev nD) : FVec F S_ .f32 := shapeCast S_ ((dats m 0 c).arrAt 8 cfg0.N : Vec F S1x1 .f32) shapeCasts_S1x1_S_

/-- The launch's perplexity as a scalar. -/
abbrev resPlex (c : Dev nD) : FVec F S_ .f32 := shapeCast S_ ((dats m 0 c).arrAt 9 cfg0.N : Vec F S1x1 .f32) shapeCasts_S1x1_S_

/-- The launch's usage as a scalar. -/
abbrev resUse (c : Dev nD) : FVec F S_ .f32 := shapeCast S_ ((dats m 0 c).arrAt 10 cfg0.N : Vec F S1x1 .f32) shapeCasts_S1x1_S_

/-- What the lines after the launch find: the launch's arrays in place, every other buffer as before. -/
abbrev tailV (c : Dev nD) : Valuation τ sig (Elt F) :=
  Pipeline.withArrays (cfgs 0).spec c (V0 m c) fun w => (dats m 0 c).arrAt w (cfgs 0).N

/-- The windows write distinct arrays. -/
theorem spec_inj : Function.Injective (Pipeline.arrRef (cfgs 0).spec) := by decide

/-- A launch's array as the lines after it find it. -/
theorem tailV_arr (c : Dev nD) (w : Fin cfg0.W) : tailV m c (Proc.devRef .tc (Pipeline.arrRef (cfgs 0).spec w)) = (dats m 0 c).arrAt w cfg0.N :=
  Pipeline.withArrays_arr (cfgs 0).spec spec_inj c (V0 m c) (fun w => (dats m 0 c).arrAt w (cfgs 0).N) w

/-- The indices after the lines that follow the launch. -/
theorem tail_v10 (c : Dev nD) : Pipeline.afterTail₀ cfgs (dats m) 0 (V0 m) [hostOps1] c main_v10 = resIdx m c := by
  show StableHlo.after (List.flatten [hostOps1]) (tailV m c) (Proc.devRef .tc main_v10) = _
  have h := tailV_arr m c 7
  have e : tailV m c (Proc.devRef .tc main_v9_2) = _ := h
  generalize tailV m c = V at e ⊢
  refine Eq.trans (b := shapeCast _ (V (Proc.devRef .tc main_v9_2)) _) rfl ?_
  rw [e]; rfl

/-- The loss after the lines that follow the launch. -/
theorem tail_v11 (c : Dev nD) : Pipeline.afterTail₀ cfgs (dats m) 0 (V0 m) [hostOps1] c main_v11 = resLoss m c := by
  show StableHlo.after (List.flatten [hostOps1]) (tailV m c) (Proc.devRef .tc main_v11) = _
  have h := tailV_arr m c 8
  have e : tailV m c (Proc.devRef .tc main_v9_3) = _ := h
  generalize tailV m c = V at e ⊢
  refine Eq.trans (b := shapeCast _ (V (Proc.devRef .tc main_v9_3)) _) rfl ?_
  rw [e]; rfl

/-- The perplexity after the lines that follow the launch. -/
theorem tail_v12 (c : Dev nD) : Pipeline.afterTail₀ cfgs (dats m) 0 (V0 m) [hostOps1] c main_v12 = resPlex m c := by
  show StableHlo.after (List.flatten [hostOps1]) (tailV m c) (Proc.devRef .tc main_v12) = _
  have h := tailV_arr m c 9
  have e : tailV m c (Proc.devRef .tc main_v9_4) = _ := h
  generalize tailV m c = V at e ⊢
  refine Eq.trans (b := shapeCast _ (V (Proc.devRef .tc main_v9_4)) _) rfl ?_
  rw [e]; rfl

/-- The usage after the lines that follow the launch. -/
theorem tail_v13 (c : Dev nD) : Pipeline.afterTail₀ cfgs (dats m) 0 (V0 m) [hostOps1] c main_v13 = resUse m c := by
  show StableHlo.after (List.flatten [hostOps1]) (tailV m c) (Proc.devRef .tc main_v13) = _
  have h := tailV_arr m c 10
  have e : tailV m c (Proc.devRef .tc main_v9_5) = _ := h
  generalize tailV m c = V at e ⊢
  refine Eq.trans (b := shapeCast _ (V (Proc.devRef .tc main_v9_5)) _) rfl ?_
  rw [e]; rfl

/-- Every weakly fair execution of the kernel ends with its six results at the launch's arrays and its arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v9_0) = (dats m 0 c).arrAt 5 cfg0.N
      ∧ r.2.mem ((c.tc : Thread nD τ).loc main_v11) = resLoss m c
      ∧ r.2.mem ((c.tc : Thread nD τ).loc main_v12) = resPlex m c
      ∧ r.2.mem ((c.tc : Thread nD τ).loc main_v13) = resUse m c
      ∧ r.2.mem ((c.tc : Thread nD τ).loc main_v10) = resIdx m c
      ∧ r.2.mem ((c.tc : Thread nD τ).loc main_v9_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h.1 c).1 5, ((h.1 c).2 main_v11 (by decide)).trans (tail_v11 m c), ((h.1 c).2 main_v12 (by decide)).trans (tail_v12 m c),
      ((h.1 c).2 main_v13 (by decide)).trans (tail_v13 m c), ((h.1 c).2 main_v10 (by decide)).trans (tail_v10 m c), (h.1 c).1 6,
      (h.2 c).1, (h.2 c).2⟩)
    (θ_run_and (run_main m ρ) (unchanged m ρ))

end Cert.KernelIdeal.Value

end
-- ==== Proof.RefIdx.lean ====
/- The reference's index of a row's smallest entry, over the extended reals. -/
module

public import proofs.«01_k».proof.Proof.RefRun
public import proofs.«01_k».proof.Proof.Nearest
public import proofs.«01_k».proof.Proof.Consts
public import Idealize.ShloMosaic.Lib.Pointwise
public import Idealize.ShloMosaic.PureOps.Ideal.Laws

@[expose] public section

set_option maxRecDepth 16384

noncomputable section

open Idealize.ShloMosaic

namespace Cert.ReferenceIdeal.Value

open Cert.ReferenceIdeal Cert.ReferenceIdeal.Gen Cert.ReferenceIdeal.Run Cert.Nearest

/-- A value and its place. -/
abbrev Pair : Type := EReal × BitVec 32

/-- The reducer's step keeps the smaller value, and of two equal values the one of the smaller place. -/
theorem reducer_eq (a b : Pair) :
    reducer_argmin_f32_i32 (F := Ideal) a b = if a.1 < b.1 ∨ (a.1 = b.1 ∧ a.2.toInt < b.2.toInt) then a else b := by
  obtain ⟨x, i⟩ := a
  obtain ⟨y, j⟩ := b
  unfold reducer_argmin_f32_i32
  simp only [Ideal.cmpf_def, Ideal.cmp, IntOp.cmpi, IntOp.ori, IntOp.andi, Scalar.select, BitVec.slt]
  by_cases h1 : x < y
  · have h2 : x ≠ y := ne_of_lt h1
    simp [h1, h2]
  · by_cases h2 : x = y
    · subst h2
      by_cases h3 : i.toInt < j.toInt <;> simp [h3]
    · simp [h1, h2]

/-- The pairs an arg-reduction along the second axis folds over are those of the row. -/
theorem mem_fiber {n0 n1 : ℕ} {α β : Type} (x : (⟨2, ![n0, n1]⟩ : Shape).Idx → α) (y : (⟨2, ![n0, n1]⟩ : Shape).Idx → β)
    (h : (⟨2, ![n0, n1]⟩ : Shape).ReducesTo [1] ⟨1, ![n0]⟩) (i : Fin n0) (q : α × β) :
    q ∈ Host.argReduceFiber x y h (ix1 i) ↔ ∃ k : Fin n1, (x (ix2 i k), y (ix2 i k)) = q := by
  unfold Host.argReduceFiber
  rw [List.mem_map]
  constructor
  · rintro ⟨n, hn, rfl⟩
    obtain ⟨k, hk⟩ := (Shape.ReducesTo.fiber_r2_a1 h (ix1 i) _).mp (of_decide_eq_true (List.mem_filter.mp hn).2)
    refine ⟨k, ?_⟩
    rw [← hk]; rfl
  · rintro ⟨k, rfl⟩
    refine ⟨(⟨2, ![n0, n1]⟩ : Shape).rowMajor (ix2 i k), List.mem_filter.mpr ⟨List.mem_finRange _, ?_⟩, ?_⟩
    · rw [Equiv.symm_apply_apply]
      exact decide_eq_true ((Shape.ReducesTo.fiber_r2_a1 h (ix1 i) _).mpr ⟨k, rfl⟩)
    · rw [Equiv.symm_apply_apply]

/-- An arg-minimum along rows of 1024 real numbers is the first smallest place of each row. -/
theorem argmin_apply {n : ℕ} (x : FVec Ideal ⟨2, ![n, 1024]⟩ .f32) (y : IVec ⟨2, ![n, 1024]⟩ 32) (ix : FVec Ideal S_ .f32) (iy : IVec S_ 32)
    (h : (⟨2, ![n, 1024]⟩ : Shape).ReducesTo [1] ⟨1, ![n]⟩) (hu : 0 < S_.numel) (f : Fin n → Fin 1024 → ℝ)
    (hx : ∀ i k, (x (ix2 i k) : EReal) = ((f i k : ℝ) : EReal)) (hy : ∀ i k, y (ix2 i k) = BitVec.ofNat 32 k.val)
    (hix : ∀ j, (ix j : EReal) = ⊤) (i : Fin n) :
    (Host.argReduce (reducer_argmin_f32_i32 (F := Ideal)) x y ix iy h hu (ix1 i)).2 = BitVec.ofNat 32 (first (f i)).val := by
  rw [Ideal.argReduce_eq_reduce2, Host.reduce2_eq_foldl_fiber]
  have key : ∀ q, q ∈ Host.argReduceFiber x y h (ix1 i) ↔
      ∃ k : Fin 1024, (((f i k : ℝ) : EReal), BitVec.ofNat 32 k.val) = q := fun q => by
    refine (mem_fiber x y h i q).trans (exists_congr fun k => ?_)
    rw [hy i k, show x (ix2 i k) = ((f i k : ℝ) : EReal) from hx i k]
  generalize Host.argReduceFiber x y h (ix1 i) = L at key ⊢
  refine congrArg Prod.snd (foldl_absorb (reducer_argmin_f32_i32 (F := Ideal)) (((f i (first (f i)) : ℝ) : EReal), BitVec.ofNat 32 (first (f i)).val)
    (fun q : Pair => ((f i (first (f i)) : ℝ) : EReal) < q.1 ∨ (((f i (first (f i)) : ℝ) : EReal) = q.1 ∧ ((BitVec.ofNat 32 (first (f i)).val).toInt < q.2.toInt
      ∨ BitVec.ofNat 32 (first (f i)).val = q.2)))
    ?_ ?_ ?_ _ _ ?_ ?_ ?_)
  · intro a b
    rw [reducer_eq]
    split
    · exact Or.inl rfl
    · exact Or.inr rfl
  · rintro ⟨y, j⟩ h
    rw [reducer_eq]
    rcases h with h | ⟨h, h' | h'⟩
    · exact if_pos (Or.inl h)
    · exact if_pos (Or.inr ⟨h, h'⟩)
    · split
      · rfl
      · exact Prod.ext h.symm h'.symm
  · rintro ⟨y, j⟩ h
    rw [reducer_eq]
    refine if_neg ?_
    dsimp only at h ⊢
    rintro (g | ⟨g, g'⟩)
    · rcases h with h | ⟨h, _⟩
      · exact absurd (h.trans g) (lt_irrefl _)
      · exact absurd h.symm (ne_of_lt g)
    · rcases h with h | ⟨h, h' | h'⟩
      · exact absurd g.symm (ne_of_lt h)
      · exact absurd (h'.trans g') (lt_irrefl _)
      · rw [h'] at g'; exact absurd g' (lt_irrefl _)
  · refine Or.inl ?_
    exact lt_of_lt_of_eq (EReal.coe_lt_top _) (hix _).symm
  · intro q hq
    obtain ⟨k, rfl⟩ := (key q).mp hq
    dsimp only
    rcases lt_trichotomy k (first (f i)) with h | h | h
    · exact Or.inl (EReal.coe_lt_coe_iff.mpr (first_lt (f i) k h))
    · rw [h]; exact Or.inr ⟨rfl, Or.inr rfl⟩
    · rcases (first_le (f i) k).lt_or_eq with g | g
      · exact Or.inl (EReal.coe_lt_coe_iff.mpr g)
      · refine Or.inr ⟨by rw [g], Or.inl ?_⟩
        have hk := k.isLt
        have hf := (first (f i)).isLt
        rw [toInt_ofNat (first (f i)).val (by omega), toInt_ofNat k.val (by omega)]
        exact_mod_cast h
  · exact Or.inl ((key _).mpr ⟨first (f i), rfl⟩)

/-- The same for the vector of all the indices. -/
theorem argmin_eq {n : ℕ} (x : FVec Ideal ⟨2, ![n, 1024]⟩ .f32) (y : IVec ⟨2, ![n, 1024]⟩ 32) (ix : FVec Ideal S_ .f32) (iy : IVec S_ 32)
    (h : (⟨2, ![n, 1024]⟩ : Shape).ReducesTo [1] ⟨1, ![n]⟩) (hu : 0 < S_.numel) (f : Fin n → Fin 1024 → ℝ)
    (hx : ∀ i k, (x (ix2 i k) : EReal) = ((f i k : ℝ) : EReal)) (hy : ∀ i k, y (ix2 i k) = BitVec.ofNat 32 k.val)
    (hix : ∀ j, (ix j : EReal) = ⊤) :
    (fun j => (Host.argReduce (reducer_argmin_f32_i32 (F := Ideal)) x y ix iy h hu j).2)
      = fun j : (⟨1, ![n]⟩ : Shape).Idx => BitVec.ofNat 32 (first (f (j 0))).val := by
  funext j
  have e : j = ix1 (j 0) := funext fun a => by
    have ha : a = 0 := Subsingleton.elim _ _
    subst ha; rfl
  rw [e]
  exact argmin_apply x y ix iy h hu f hx hy hix (j 0)

/-- The vector of indices the reference finds in rows of real numbers: the first smallest place of each. -/
theorem idxR_eq (x : Arr Ideal S16384x1024 .f32) (f : Fin 16384 → Fin 1024 → ℝ)
    (hx : ∀ i k, (x (ix2 i k) : EReal) = ((f i k : ℝ) : EReal)) :
    idxR (F := Ideal) x = fun j : S16384.Idx => BitVec.ofNat 32 (first (f (j 0))).val := by
  unfold idxR
  exact argmin_eq (n := 16384) x (iotaInDim S16384x1024 32 1) (constant S_ .f32 0x7F800000#32) (constantI S_ 32 0#32)
    reducesTo_S16384x1024_S16384_d1 h_S_ f hx (fun _ _ => rfl) (fun _ => c_inf)

end Cert.ReferenceIdeal.Value

end
-- ==== Proof.RefVal.lean ====
/- The reference's values over the extended reals when every argument entry is a real number: distances, indices, encodings, gathered rows and the
   column means. -/
module

public import proofs.«01_k».proof.Proof.RefIdx

@[expose] public section

set_option maxRecDepth 16384

noncomputable section

open Idealize.ShloMosaic

namespace Cert.ReferenceIdeal.Value

open Cert.ReferenceIdeal Cert.ReferenceIdeal.Gen Cert.ReferenceIdeal.Run Cert.Nearest

/-- The distances at an index: the two squared norms, less twice the product. -/
theorem distR_apply (z : Arr Ideal S16384x64 .f32) (w : Arr Ideal S1024x64 .f32) (i : Fin 16384) (k : Fin 1024) :
    (distR z w (ix2 i k) : EReal) = ((∑ d : Fin 64, (z (ix2 i d) * z (ix2 i d) : EReal)) + ∑ d : Fin 64, (w (ix2 k d) * w (ix2 k d) : EReal))
      - Ideal.ofBits .f32 0x40000000#32 * ∑ d : Fin 64, (z (ix2 i d) * w (ix2 k d) : EReal) := by
  unfold distR
  pointwise

/-- The encodings at an index. -/
theorem onehotR_apply (v : Arr Ideal S16384 .i32) (i : Fin 16384) (k : Fin 1024) :
    (onehotR (F := Ideal) v (ix2 i k) : EReal) = FloatOps.uitofp (F := Ideal) .f32 (IntOp.cmpi .eq (v (ix1 i)) (BitVec.ofNat 32 k.val)) := by
  unfold onehotR
  pointwise

/-- The wrapped indices at an index. -/
theorem wrapR_apply (v : Arr Ideal S16384 .i32) (i : Fin 16384) :
    wrapR (F := Ideal) v (ix2 i 0) = Scalar.select (IntOp.cmpi .slt (v (ix1 i)) 0#32) (v (ix1 i) + 1024#32) (v (ix1 i)) := by
  unfold wrapR
  pointwise
  rfl

/-- Whether an index vector lies inside. -/
theorem insideR_apply (v : Arr Ideal S16384x1 .i32) (i : Fin 16384) :
    insideR (F := Ideal) v (ix1 i) = IntOp.andi (IntOp.andi (IntOp.cmpi .sge (v (ix2 i 0)) 0#32) (IntOp.cmpi .sle (v (ix2 i 0)) 1023#32)) 1#1 := by
  unfold insideR
  pointwise
  simp

/-- The place in the table that a place in the gathered rows reads. -/
theorem gather_idx (v : IVec S16384x1 32) (i : Fin 16384) (d : Fin 64) (k : Fin 1024) (hk : v (ix2 i 0) = BitVec.ofNat 32 k.val) :
    gather_S1024x64_S16384x1_S16384x64_1_0_n_n_0_1_164.operandIdx (ix2 i d) v = ix2 k d := by
  have hs : gather_S1024x64_S16384x1_S16384x64_1_0_n_n_0_1_164.siIdx (ix2 i d) ⟨0, by decide⟩ = ix2 i 0 := by
    funext b
    match b with
    | ⟨0, _⟩ => rfl
    | ⟨1, _⟩ => rfl
  funext a
  apply Fin.ext
  match a with
  | ⟨0, _⟩ =>
    show min (v (gather_S1024x64_S16384x1_S16384x64_1_0_n_n_0_1_164.siIdx (ix2 i d) ⟨0, by decide⟩)).toInt.toNat (1024 - 1) + 0 + 0 = k.val
    have := k.isLt
    rw [hs, hk, toInt_ofNat k.val (by omega)]
    omega
  | ⟨1, _⟩ => show 0 + 0 + d.val = d.val; omega

/-- The gathered row is the table row that the index names. -/
theorem takeR_apply (w : Arr Ideal S1024x64 .f32) (v : Arr Ideal S16384x1 .i32) (i : Fin 16384) (d : Fin 64) (k : Fin 1024)
    (hk : v (ix2 i 0) = BitVec.ofNat 32 k.val) : takeR w v (ix2 i d) = w (ix2 k d) := by
  have hin : insideR (F := Ideal) v (ix1 i) = 1#1 := by
    have := k.isLt
    have h0 := toInt_ofNat k.val (by omega)
    rw [insideR_apply, hk]
    have h1 : IntOp.cmpi .sge (BitVec.ofNat 32 k.val) 0#32 = 1#1 := by
      simp only [IntOp.cmpi, BitVec.sle, h0]; simp
    have h2 : IntOp.cmpi .sle (BitVec.ofNat 32 k.val) 1023#32 = 1#1 := by
      have h3 : (1023#32).toInt = 1023 := by decide
      simp only [IntOp.cmpi, BitVec.sle, h0, h3]
      rw [decide_eq_true (by omega)]; rfl
    rw [h1, h2]; rfl
  have hg : Host.gather gather_S1024x64_S16384x1_S16384x64_1_0_n_n_0_1_164 w v (ix2 i d) = w (ix2 k d) :=
    congrArg w (gather_idx v i d k hk)
  unfold takeR
  pointwise
  rw [hin, hg]; rfl

/-- The straight-through value at an index. -/
theorem throughR_apply (z q : Arr Ideal S16384x64 .f32) (i : Fin 16384) (d : Fin 64) :
    (throughR z q (ix2 i d) : EReal) = z (ix2 i d) + (q (ix2 i d) - z (ix2 i d)) := by
  unfold throughR
  pointwise

/-- The mean squared difference as a sum over rows and columns. -/
theorem lossR_apply (z q : Arr Ideal S16384x64 .f32) (j : S_.Idx) :
    (lossR z q j : EReal) = Ideal.div (∑ i : Fin 16384, ∑ d : Fin 64, ((z (ix2 i d) - q (ix2 i d)) * (z (ix2 i d) - q (ix2 i d)) : EReal))
      (Ideal.ofBits .f32 0x49800000#32) := by
  unfold lossR
  pointwise

/-- The column means at an index. -/
theorem avgR_apply (e : Arr Ideal S16384x1024 .f32) (k : Fin 1024) :
    (avgR e (ix1 k) : EReal) = Ideal.div (∑ i : Fin 16384, (e (ix2 i k) : EReal)) (Ideal.ofBits .f32 0x46800000#32) := by
  unfold avgR
  pointwise

/-- The perplexity of column means. -/
theorem plexR_apply (a : Arr Ideal S1024 .f32) (j : S_.Idx) :
    (plexR a j : EReal) = Ideal.exp (-∑ k : Fin 1024, (a (ix1 k) : EReal) * Ideal.log ((a (ix1 k) : EReal) + Ideal.ofBits .f32 0x2EDBE6FF#32)) := by
  unfold plexR
  pointwise

/-- The share of columns whose mean is above the threshold. -/
theorem usageR_apply (a : Arr Ideal S1024 .f32) (j : S_.Idx) :
    (usageR a j : EReal) = Ideal.div (∑ k : Fin 1024, FloatOps.uitofp (F := Ideal) .f32 (Ideal.cmp .ogt (a (ix1 k)) (Ideal.ofBits .f32 0x3A83126F#32)))
      (Ideal.ofBits .f32 0x44800000#32) := by
  unfold usageR
  pointwise

variable (z : Arr Ideal S16384x64 .f32) (w : Arr Ideal S1024x64 .f32)
variable (Z : Fin 16384 → Fin 64 → ℝ) (W : Fin 1024 → Fin 64 → ℝ)
variable (hz : ∀ i d, (z (ix2 i d) : EReal) = ((Z i d : ℝ) : EReal)) (hw : ∀ k d, (w (ix2 k d) : EReal) = ((W k d : ℝ) : EReal))

include hz hw

/-- The reference's distances are the squared distances. -/
theorem dist_val (i : Fin 16384) (k : Fin 1024) : (distR z w (ix2 i k) : EReal) = ((dist Z W i k : ℝ) : EReal) := by
  rw [distR_apply, c_two, ← dist_expand']
  simp only [hz, hw, ← EReal.coe_mul, ← coe_sum, ← EReal.coe_add, ← EReal.coe_sub]

/-- The reference's indices are those of the nearest table rows. -/
theorem idx_val : idxR (distR z w) = fun j : S16384.Idx => BitVec.ofNat 32 (near Z W (j 0)).val :=
  idxR_eq (distR z w) (dist Z W) (dist_val z w Z W hz hw)

/-- The reference's encodings are one at the nearest table row and zero elsewhere. -/
theorem onehot_val (i : Fin 16384) (k : Fin 1024) :
    (onehotR (F := Ideal) (idxR (distR z w)) (ix2 i k) : EReal) = ((hit Z W i k : ℝ) : EReal) := by
  rw [onehotR_apply, idx_val z w Z W hz hw, uitofp_eq]
  simp only [ofNat_inj, hit, eq_comm (b := k)]
  show (if k = near Z W i then (1 : EReal) else 0) = _
  split <;> simp

/-- The gathered rows are the nearest table rows. -/
theorem take_val (i : Fin 16384) (d : Fin 64) :
    (takeR w (wrapR (idxR (distR z w))) (ix2 i d) : EReal) = ((W (near Z W i) d : ℝ) : EReal) := by
  refine (takeR_apply w _ i d (near Z W i) ?_).trans (hw _ _)
  have := (near Z W i).isLt
  have h0 := toInt_ofNat (near Z W i).val (by omega)
  rw [wrapR_apply, idx_val z w Z W hz hw]
  show Scalar.select (IntOp.cmpi .slt (BitVec.ofNat 32 (near Z W i).val) 0#32) _ (BitVec.ofNat 32 (near Z W i).val) = _
  have h1 : IntOp.cmpi .slt (BitVec.ofNat 32 (near Z W i).val) 0#32 = 0#1 := by
    have h3 : (0#32).toInt = 0 := by decide
    simp only [IntOp.cmpi, BitVec.slt, h0, h3]
    rw [decide_eq_false (by omega)]; rfl
  rw [h1]; rfl

/-- The straight-through values are the nearest table rows. -/
theorem through_val (i : Fin 16384) (d : Fin 64) :
    (throughR z (takeR w (wrapR (idxR (distR z w)))) (ix2 i d) : EReal) = ((W (near Z W i) d : ℝ) : EReal) := by
  rw [throughR_apply, take_val z w Z W hz hw, hz, ← EReal.coe_sub, ← EReal.coe_add, add_sub_cancel]

/-- The reference's loss is the mean squared distance to the nearest table row, over all entries. -/
theorem loss_val (j : S_.Idx) :
    (lossR z (takeR w (wrapR (idxR (distR z w)))) j : EReal) = (((∑ i, dist Z W i (near Z W i)) / 1048576 : ℝ) : EReal) := by
  rw [lossR_apply, c_entries, Ideal.div_coe (by norm_num)]
  simp only [take_val z w Z W hz hw, hz, ← EReal.coe_sub, ← EReal.coe_mul, ← coe_sum]
  rw [mul_one_div]; rfl

/-- The reference's column means are the shares of the rows. -/
theorem avg_val (k : Fin 1024) : (avgR (onehotR (F := Ideal) (idxR (distR z w))) (ix1 k) : EReal) = ((share Z W k : ℝ) : EReal) := by
  rw [avgR_apply, c_rows, Ideal.div_coe (by norm_num)]
  simp only [onehot_val z w Z W hz hw, ← EReal.coe_mul, ← coe_sum]
  rw [mul_one_div]; rfl

/-- The reference's perplexity is that of the shares. -/
theorem plex_val (j : S_.Idx) :
    (plexR (avgR (onehotR (F := Ideal) (idxR (distR z w)))) j : EReal)
      = Ideal.exp (-∑ k, ((share Z W k : ℝ) : EReal) * Ideal.log (((share Z W k : ℝ) : EReal) + Ideal.ofBits .f32 0x2EDBE6FF#32)) := by
  rw [plexR_apply]
  simp only [avg_val z w Z W hz hw]

/-- The reference's usage is that of the shares. -/
theorem usage_val (j : S_.Idx) :
    (usageR (avgR (onehotR (F := Ideal) (idxR (distR z w)))) j : EReal)
      = Ideal.div (∑ k, FloatOps.uitofp (F := Ideal) .f32 (Ideal.cmp .ogt ((share Z W k : ℝ) : EReal) (Ideal.ofBits .f32 0x3A83126F#32)))
          (Ideal.ofBits .f32 0x44800000#32) := by
  rw [usageR_apply]
  simp only [avg_val z w Z W hz hw]

end Cert.ReferenceIdeal.Value

end
-- ==== Proof.Equation.lean ====
/- The kernel's six results and the reference's are equal over the extended reals when every argument entry is a real number. -/
module

public import proofs.«01_k».proof.Proof.LastVal
public import proofs.«01_k».proof.Proof.KernelRun
public import proofs.«01_k».proof.Proof.RefVal

@[expose] public section

set_option maxRecDepth 16384

noncomputable section

open Idealize.ShloMosaic Idealize.ShloMosaic.TcCoe Idealize.SL.Sem

namespace Cert.Nearest

/-- Every row number is a block's row. -/
theorem row_surj (i : Fin 16384) : ∃ (t : Fin 16) (b : Fin 1024), row t b = i :=
  ⟨⟨i.val / 1024, by omega⟩, ⟨i.val % 1024, by omega⟩, Fin.ext (show 1024 * (i.val / 1024) + i.val % 1024 = i.val by omega)⟩

end Cert.Nearest

namespace Cert.KernelIdeal.Value

open Cert.KernelIdeal Cert.KernelIdeal.Gen Cert.Nearest
open Cert.ReferenceIdeal.Run (distR idxR onehotR wrapR takeR lossR throughR avgR plexR usageR)

variable (m : (ℓ : Loc nD τ sig) → Buf (Elt Ideal) ℓ) (c : Dev nD)
variable (Z : Fin 16384 → Fin 64 → ℝ) (W : Fin 1024 → Fin 64 → ℝ)
variable (hz : ∀ i d, argZ m c (ix2 i d) = ((Z i d : ℝ) : EReal)) (hw : ∀ k d, argW m c (ix2 k d) = ((W k d : ℝ) : EReal))

/-- A grid point from one of sixteen. -/
abbrev gridPt (t : Fin 16) : Fin cfg0.N := Fin.cast hN.symm t

/-- The vector of indices at a row is the launch's array at the row's block and place. -/
theorem resIdx_apply (t : Fin 16) (b : Fin 1024) :
    resIdx m c (ix1 (row t b)) = ((dats m 0 c).arrAt 7 cfg0.N : S16x1x1024.Idx → BitVec 32) (ix3 t 0 b) := by
  refine shapeCast_apply _ _ _ _ ?_
  refine (rowMajor_val3 (d := ![16, 1, 1024]) (ix3 t 0 b) 1024 1024 rfl rfl).trans ?_
  refine Eq.trans ?_ (rowMajor_val1 (d := ![16384]) (ix1 (row t b))).symm
  show t.val * 1024 + 0 * 1024 + b.val = 1024 * t.val + b.val
  omega

/-- A scalar read off a one-entry array is its entry. -/
theorem scalar_apply (v : Vec Ideal S1x1 .f32) (j : S_.Idx) : shapeCast S_ v shapeCasts_S1x1_S_ j = v (ix2 0 0) := by
  pointwise

include hz hw

/-- The quantised rows are the reference's straight-through values. -/
theorem rows_eq : (dats m 0 c).arrAt 5 cfg0.N
    = throughR (F := Ideal) (argZ m c) (takeR (F := Ideal) (argW m c) (wrapR (F := Ideal) (idxR (F := Ideal) (distR (F := Ideal) (argZ m c) (argW m c))))) := by
  funext (j : S16384x64.Idx)
  obtain ⟨t, b, e⟩ := row_surj (j 0)
  rw [eq_ix2 j, ← e]
  exact (arr5 m c (gridPt t) b (j 1)).trans ((pay14_val m c Z W hz hw (gridPt t) b (j 1)).trans
    (Cert.ReferenceIdeal.Value.through_val (argZ m c) (argW m c) Z W hz hw (row t b) (j 1)).symm)

/-- The encodings are the reference's. -/
theorem codes_eq : (dats m 0 c).arrAt 6 cfg0.N = onehotR (F := Ideal) (idxR (F := Ideal) (distR (F := Ideal) (argZ m c) (argW m c))) := by
  funext (j : S16384x1024.Idx)
  obtain ⟨t, b, e⟩ := row_surj (j 0)
  rw [eq_ix2 j, ← e]
  exact (arr6 m c (gridPt t) b (j 1)).trans ((pay15_val m c Z W hz hw (gridPt t) b (j 1)).trans
    (Cert.ReferenceIdeal.Value.onehot_val (argZ m c) (argW m c) Z W hz hw (row t b) (j 1)).symm)

/-- The indices are the reference's. -/
theorem idx_eq : resIdx m c = idxR (F := Ideal) (distR (F := Ideal) (argZ m c) (argW m c)) := by
  refine Eq.trans ?_ (Cert.ReferenceIdeal.Value.idx_val (argZ m c) (argW m c) Z W hz hw).symm
  funext (j : S16384.Idx)
  obtain ⟨t, b, e⟩ := row_surj (j 0)
  rw [eq_ix1 j, ← e]
  exact (resIdx_apply m c t b).trans ((arr7 m c (gridPt t) b).trans ((pay16_apply _ _ _ _ b).trans (pay12_val m c Z W hz hw (gridPt t) b)))

/-- The loss is the reference's. -/
theorem loss_eq : resLoss m c = lossR (F := Ideal) (argZ m c) (takeR (F := Ideal) (argW m c) (wrapR (F := Ideal) (idxR (F := Ideal) (distR (F := Ideal) (argZ m c) (argW m c))))) :=
  funext fun j => (scalar_apply _ j).trans ((arr8_val m c Z W hz hw).trans
    (Cert.ReferenceIdeal.Value.loss_val (argZ m c) (argW m c) Z W hz hw j).symm)

/-- The perplexity is the reference's. -/
theorem plex_eq : resPlex m c = plexR (F := Ideal) (avgR (F := Ideal) (onehotR (F := Ideal) (idxR (F := Ideal) (distR (F := Ideal) (argZ m c) (argW m c))))) :=
  funext fun j => (scalar_apply _ j).trans ((arr9_val m c Z W hz hw).trans ((congrArg Ideal.exp (zero_sub _)).trans
    (Cert.ReferenceIdeal.Value.plex_val (argZ m c) (argW m c) Z W hz hw j).symm))

/-- The usage is the reference's. -/
theorem usage_eq : resUse m c = usageR (F := Ideal) (avgR (F := Ideal) (onehotR (F := Ideal) (idxR (F := Ideal) (distR (F := Ideal) (argZ m c) (argW m c))))) :=
  funext fun j => (scalar_apply _ j).trans ((arr10_val m c Z W hz hw).trans
    (Cert.ReferenceIdeal.Value.usage_val (argZ m c) (argW m c) Z W hz hw j).symm)

end Cert.KernelIdeal.Value

end
-- ==== Proof.Finite.lean ====
/- The precondition read off: every entry of both arguments is a real number. -/
module

public import proofs.«01_k».proof.Pre_finite
public import proofs.«01_k».proof.Proof.Gen.Pre_finite
public import proofs.«01_k».proof.Proof.Consts
public import Idealize.ShloMosaic.Lib.Pointwise
public import Idealize.ShloMosaic.Lib.ReduceAll

@[expose] public section

set_option maxRecDepth 16384

noncomputable section

open Idealize.ShloMosaic

namespace Cert.Pre_finite.Value

open Cert.Pre_finite Cert.Pre_finite.Facts Cert.Nearest

variable [Facts]

/-- An entry whose absolute value is below infinity is a real number. -/
theorem real_of_lt (x : EReal) (h : Ideal.cmp .olt (max x (-x)) (Ideal.ofBits .f32 0x7F800000#32) = 1#1) : x = ((x.toReal : ℝ) : EReal) := by
  rw [c_inf] at h
  have h' : max x (-x) < ⊤ := by
    by_contra hn
    simp [Ideal.cmp, hn] at h
  refine (EReal.coe_toReal ?_ ?_).symm
  · rintro rfl; simp at h'
  · rintro rfl; simp at h'

/-- A scalar has one index. -/
instance : Subsingleton S_.Idx := ⟨fun _ _ => funext fun a => a.elim0⟩

/-- The precondition makes every entry of both arguments a real number. -/
theorem real_of_pre (z : FVec Ideal S16384x64 .f32) (w : FVec Ideal S1024x64 .f32) (h : fn (F := Ideal) z w = fun _ => 1#1) :
    (∀ i d, (z (ix2 i d) : EReal) = (((z (ix2 i d) : EReal).toReal : ℝ) : EReal))
    ∧ ∀ k d, (w (ix2 k d) : EReal) = (((w (ix2 k d) : EReal).toReal : ℝ) : EReal) := by
  obtain ⟨h1, h2⟩ := IntOp.andi_eq_one.1 (congrFun h ix0)
  exact ⟨fun i d => real_of_lt _ (Host.reduce_andi_all _ _ _ _ _ h1 (ix2 i d)),
    fun k d => real_of_lt _ (Host.reduce_andi_all _ _ _ _ _ h2 (ix2 k d))⟩

end Cert.Pre_finite.Value

end
-- ==== Proof.lean ====
/- The proof of the certificate's claims: the three frames, the idealization, and the equality of the kernel's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Equation
public import proofs.«01_k».proof.Proof.Finite
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The kernel's six results and the reference's are equal on arguments whose entries are all real numbers. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.Gen.facts) := by
  intro m g m' g' hpre hagree
  have hreal := fun c => Cert.Pre_finite.Value.real_of_pre _ _ (hpre c)
  refine ⟨fun c => (Cert.KernelIdeal.Gen.dats m 0 c).arrAt 5 Cert.KernelIdeal.cfg0.N, fun c => Cert.KernelIdeal.Value.resLoss m c,
    fun c => Cert.KernelIdeal.Value.resPlex m c, fun c => Cert.KernelIdeal.Value.resUse m c, fun c => Cert.KernelIdeal.Value.resIdx m c,
    fun c => (Cert.KernelIdeal.Gen.dats m 0 c).arrAt 6 Cert.KernelIdeal.cfg0.N, Cert.KernelIdeal.Value.run m g, ?_⟩
  refine (θ_run _ _ _).mono (fun r h c => ?_) (Cert.ReferenceIdeal.Run.run m' g')
  obtain ⟨hz, hw⟩ := hreal c
  obtain ⟨h0, h1, h2, h3, h4, h5, h6, h7⟩ := h c
  have ez : Cert.ReferenceIdeal.Run.argZ m' c = Cert.KernelIdeal.Value.argZ m c := (hagree c).1
  have ew : Cert.ReferenceIdeal.Run.argW m' c = Cert.KernelIdeal.Value.argW m c := (hagree c).2
  rw [ez, ew] at h0 h1 h2 h3 h4 h5
  exact ⟨h0.trans (Cert.KernelIdeal.Value.rows_eq m c _ _ hz hw).symm, h1.trans (Cert.KernelIdeal.Value.loss_eq m c _ _ hz hw).symm,
    h2.trans (Cert.KernelIdeal.Value.plex_eq m c _ _ hz hw).symm, h3.trans (Cert.KernelIdeal.Value.usage_eq m c _ _ hz hw).symm,
    h4.trans (Cert.KernelIdeal.Value.idx_eq m c _ _ hz hw).symm, h5.trans (Cert.KernelIdeal.Value.codes_eq m c _ _ hz hw).symm, h6, h7⟩

/-- Every claim of the certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Run.frame m ρ, fun m ρ _ => Cert.ReferenceIdeal.Run.frame m ρ, trivial, algebraic⟩

end Cert.Proof

end
